-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S8 : Shape := ⟨1, ![8]⟩
abbrev S_ : Shape := ⟨0, ![]⟩
abbrev S1 : Shape := ⟨1, ![1]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S4096x2048, .f32⟩
  | .local _ .vmem, ⟨2, _⟩ => ⟨S512x2048, .f32⟩
  | .local _ .vmem, ⟨3, _⟩ => ⟨S4096x512, .bf16⟩
  | .local _ .vmem, ⟨4, _⟩ => ⟨S8x512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v10 : BitVec 1 := Scalar.cmpi .ne v2 c0_i32
  let v11 : BitVec 32 := Scalar.extui v10
  let c0_i32_3 : BitVec 32 := 0#32
  let v12 : BitVec 1 := Scalar.cmpi .ne v11 c0_i32_3
  v12

def k0_dev1 : Nat :=
  let c0_i32_355 : BitVec 32 := 0#32
  let c0_i32_353 : BitVec 32 := 0#32
  let c1_i32_354 : BitVec 32 := 1#32
  let v524 : BitVec 32 := Scalar.muli c0_i32_353 c1_i32_354
  let v525 : BitVec 32 := Scalar.addi c0_i32_355 v524
  v525.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 1 := Scalar.cmpi .ne v2 c1_i32_4
  let v14 : BitVec 32 := Scalar.extui v13
  let c0_i32_5 : BitVec 32 := 0#32
  let v15 : BitVec 1 := Scalar.cmpi .ne v14 c0_i32_5
  v15

def k0_dev2 : Nat :=
  let c0_i32_355 : BitVec 32 := 0#32
  let c1_i32_353 : BitVec 32 := 1#32
  let c1_i32_354 : BitVec 32 := 1#32
  let v524 : BitVec 32 := Scalar.muli c1_i32_353 c1_i32_354
  let v525 : BitVec 32 := Scalar.addi c0_i32_355 v524
  v525.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v16 : BitVec 1 := Scalar.cmpi .ne v2 c2_i32
  let v17 : BitVec 32 := Scalar.extui v16
  let c0_i32_6 : BitVec 32 := 0#32
  let v18 : BitVec 1 := Scalar.cmpi .ne v17 c0_i32_6
  v18

def k0_dev3 : Nat :=
  let c0_i32_355 : BitVec 32 := 0#32
  let c2_i32_353 : BitVec 32 := 2#32
  let c1_i32_354 : BitVec 32 := 1#32
  let v524 : BitVec 32 := Scalar.muli c2_i32_353 c1_i32_354
  let v525 : BitVec 32 := Scalar.addi c0_i32_355 v524
  v525.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 1 := Scalar.cmpi .ne v2 c3_i32
  let v20 : BitVec 32 := Scalar.extui v19
  let c0_i32_7 : BitVec 32 := 0#32
  let v21 : BitVec 1 := Scalar.cmpi .ne v20 c0_i32_7
  v21

def k0_dev4 : Nat :=
  let c0_i32_355 : BitVec 32 := 0#32
  let c3_i32_353 : BitVec 32 := 3#32
  let c1_i32_354 : BitVec 32 := 1#32
  let v524 : BitVec 32 := Scalar.muli c3_i32_353 c1_i32_354
  let v525 : BitVec 32 := Scalar.addi c0_i32_355 v524
  v525.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 1 := Scalar.cmpi .ne v2 c4_i32
  let v23 : BitVec 32 := Scalar.extui v22
  let c0_i32_8 : BitVec 32 := 0#32
  let v24 : BitVec 1 := Scalar.cmpi .ne v23 c0_i32_8
  v24

def k0_dev5 : Nat :=
  let c0_i32_355 : BitVec 32 := 0#32
  let c4_i32_353 : BitVec 32 := 4#32
  let c1_i32_354 : BitVec 32 := 1#32
  let v524 : BitVec 32 := Scalar.muli c4_i32_353 c1_i32_354
  let v525 : BitVec 32 := Scalar.addi c0_i32_355 v524
  v525.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 1 := Scalar.cmpi .ne v2 c5_i32
  let v26 : BitVec 32 := Scalar.extui v25
  let c0_i32_9 : BitVec 32 := 0#32
  let v27 : BitVec 1 := Scalar.cmpi .ne v26 c0_i32_9
  v27

def k0_dev6 : Nat :=
  let c0_i32_355 : BitVec 32 := 0#32
  let c5_i32_353 : BitVec 32 := 5#32
  let c1_i32_354 : BitVec 32 := 1#32
  let v524 : BitVec 32 := Scalar.muli c5_i32_353 c1_i32_354
  let v525 : BitVec 32 := Scalar.addi c0_i32_355 v524
  v525.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v28 : BitVec 1 := Scalar.cmpi .ne v2 c6_i32
  let v29 : BitVec 32 := Scalar.extui v28
  let c0_i32_10 : BitVec 32 := 0#32
  let v30 : BitVec 1 := Scalar.cmpi .ne v29 c0_i32_10
  v30

def k0_dev7 : Nat :=
  let c0_i32_355 : BitVec 32 := 0#32
  let c6_i32_353 : BitVec 32 := 6#32
  let c1_i32_354 : BitVec 32 := 1#32
  let v524 : BitVec 32 := Scalar.muli c6_i32_353 c1_i32_354
  let v525 : BitVec 32 := Scalar.addi c0_i32_355 v524
  v525.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v31 : BitVec 1 := Scalar.cmpi .ne v2 c7_i32
  let v32 : BitVec 32 := Scalar.extui v31
  let c0_i32_11 : BitVec 32 := 0#32
  let v33 : BitVec 1 := Scalar.cmpi .ne v32 c0_i32_11
  v33

def k0_dev8 : Nat :=
  let c0_i32_355 : BitVec 32 := 0#32
  let c7_i32_353 : BitVec 32 := 7#32
  let c1_i32_354 : BitVec 32 := 1#32
  let v524 : BitVec 32 := Scalar.muli c7_i32_353 c1_i32_354
  let v525 : BitVec 32 := Scalar.addi c0_i32_355 v524
  v525.toNat
def k0_off1 (d0 : Dev nD) (c1_i32_13 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : BitVec 32 := Scalar.addi v2 c1_i32_13
  let c8_i32_14 : BitVec 32 := 8#32
  let c0_i32_15 : BitVec 32 := 0#32
  let v35 : BitVec 1 := Scalar.cmpi .eq c8_i32_14 c0_i32_15
  let c1_i32_16 : BitVec 32 := 1#32
  let v36 : BitVec 32 := Scalar.select v35 c1_i32_16 c8_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  ![v44.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let c0_i32_23 : BitVec 32 := 0#32
  ![v2.toNat, 0, 0]
def k0_off4 (d0 : Dev nD) (c1_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : BitVec 32 := Scalar.addi v2 c1_i32_13
  let c8_i32_14 : BitVec 32 := 8#32
  let c0_i32_15 : BitVec 32 := 0#32
  let v35 : BitVec 1 := Scalar.cmpi .eq c8_i32_14 c0_i32_15
  let c1_i32_16 : BitVec 32 := 1#32
  let v36 : BitVec 32 := Scalar.select v35 c1_i32_16 c8_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c512_i32 : BitVec 32 := 512#32
  let v45 : BitVec 32 := Scalar.muli v44 c512_i32
  let c0_i32_24 : BitVec 32 := 0#32
  ![v45.toNat, 0]
def k0_dev9 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v34 : BitVec 32 := Scalar.addi v2 c1_i32_13
  let c8_i32_14 : BitVec 32 := 8#32
  let c0_i32_15 : BitVec 32 := 0#32
  let v35 : BitVec 1 := Scalar.cmpi .eq c8_i32_14 c0_i32_15
  let c1_i32_16 : BitVec 32 := 1#32
  let v36 : BitVec 32 := Scalar.select v35 c1_i32_16 c8_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_20 : BitVec 32 := 1#32
  let v46 : BitVec 32 := Scalar.muli v44 c1_i32_20
  let v47 : BitVec 32 := Scalar.addi c0_i32_21 v46
  v47.toNat
def k0_dev10 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_25 : BitVec 32 := 2#32
  let v55 : BitVec 32 := Scalar.addi v2 c2_i32_25
  let c8_i32_26 : BitVec 32 := 8#32
  let c0_i32_27 : BitVec 32 := 0#32
  let v56 : BitVec 1 := Scalar.cmpi .eq c8_i32_26 c0_i32_27
  let c1_i32_28 : BitVec 32 := 1#32
  let v57 : BitVec 32 := Scalar.select v56 c1_i32_28 c8_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c1_i32_33 : BitVec 32 := 1#32
  let v67 : BitVec 32 := Scalar.muli v65 c1_i32_33
  let v68 : BitVec 32 := Scalar.addi c0_i32_34 v67
  v68.toNat
def k0_dev11 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_38 : BitVec 32 := 3#32
  let v76 : BitVec 32 := Scalar.addi v2 c3_i32_38
  let c8_i32_39 : BitVec 32 := 8#32
  let c0_i32_40 : BitVec 32 := 0#32
  let v77 : BitVec 1 := Scalar.cmpi .eq c8_i32_39 c0_i32_40
  let c1_i32_41 : BitVec 32 := 1#32
  let v78 : BitVec 32 := Scalar.select v77 c1_i32_41 c8_i32_39
  let v79 : BitVec 32 := Scalar.remsi v76 v78
  let c0_i32_43 : BitVec 32 := 0#32
  let v81 : BitVec 1 := Scalar.cmpi .slt v79 c0_i32_43
  let c0_i32_44 : BitVec 32 := 0#32
  let v82 : BitVec 1 := Scalar.cmpi .slt v78 c0_i32_44
  let v83 : BitVec 1 := Scalar.xori v81 v82
  let c0_i32_42 : BitVec 32 := 0#32
  let v80 : BitVec 1 := Scalar.cmpi .ne v79 c0_i32_42
  let v84 : BitVec 1 := Scalar.andi v83 v80
  let v85 : BitVec 32 := Scalar.addi v79 v78
  let v86 : BitVec 32 := Scalar.select v84 v85 v79
  let c1_i32_46 : BitVec 32 := 1#32
  let v88 : BitVec 32 := Scalar.muli v86 c1_i32_46
  let v89 : BitVec 32 := Scalar.addi c0_i32_47 v88
  v89.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_51 : BitVec 32 := 4#32
  let v97 : BitVec 32 := Scalar.addi v2 c4_i32_51
  let c8_i32_52 : BitVec 32 := 8#32
  let c0_i32_53 : BitVec 32 := 0#32
  let v98 : BitVec 1 := Scalar.cmpi .eq c8_i32_52 c0_i32_53
  let c1_i32_54 : BitVec 32 := 1#32
  let v99 : BitVec 32 := Scalar.select v98 c1_i32_54 c8_i32_52
  let v100 : BitVec 32 := Scalar.remsi v97 v99
  let c0_i32_56 : BitVec 32 := 0#32
  let v102 : BitVec 1 := Scalar.cmpi .slt v100 c0_i32_56
  let c0_i32_57 : BitVec 32 := 0#32
  let v103 : BitVec 1 := Scalar.cmpi .slt v99 c0_i32_57
  let v104 : BitVec 1 := Scalar.xori v102 v103
  let c0_i32_55 : BitVec 32 := 0#32
  let v101 : BitVec 1 := Scalar.cmpi .ne v100 c0_i32_55
  let v105 : BitVec 1 := Scalar.andi v104 v101
  let v106 : BitVec 32 := Scalar.addi v100 v99
  let v107 : BitVec 32 := Scalar.select v105 v106 v100
  let c1_i32_59 : BitVec 32 := 1#32
  let v109 : BitVec 32 := Scalar.muli v107 c1_i32_59
  let v110 : BitVec 32 := Scalar.addi c0_i32_60 v109
  v110.toNat
def k0_dev13 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_64 : BitVec 32 := 5#32
  let v118 : BitVec 32 := Scalar.addi v2 c5_i32_64
  let c8_i32_65 : BitVec 32 := 8#32
  let c0_i32_66 : BitVec 32 := 0#32
  let v119 : BitVec 1 := Scalar.cmpi .eq c8_i32_65 c0_i32_66
  let c1_i32_67 : BitVec 32 := 1#32
  let v120 : BitVec 32 := Scalar.select v119 c1_i32_67 c8_i32_65
  let v121 : BitVec 32 := Scalar.remsi v118 v120
  let c0_i32_69 : BitVec 32 := 0#32
  let v123 : BitVec 1 := Scalar.cmpi .slt v121 c0_i32_69
  let c0_i32_70 : BitVec 32 := 0#32
  let v124 : BitVec 1 := Scalar.cmpi .slt v120 c0_i32_70
  let v125 : BitVec 1 := Scalar.xori v123 v124
  let c0_i32_68 : BitVec 32 := 0#32
  let v122 : BitVec 1 := Scalar.cmpi .ne v121 c0_i32_68
  let v126 : BitVec 1 := Scalar.andi v125 v122
  let v127 : BitVec 32 := Scalar.addi v121 v120
  let v128 : BitVec 32 := Scalar.select v126 v127 v121
  let c1_i32_72 : BitVec 32 := 1#32
  let v130 : BitVec 32 := Scalar.muli v128 c1_i32_72
  let v131 : BitVec 32 := Scalar.addi c0_i32_73 v130
  v131.toNat
def k0_dev14 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_77 : BitVec 32 := 6#32
  let v139 : BitVec 32 := Scalar.addi v2 c6_i32_77
  let c8_i32_78 : BitVec 32 := 8#32
  let c0_i32_79 : BitVec 32 := 0#32
  let v140 : BitVec 1 := Scalar.cmpi .eq c8_i32_78 c0_i32_79
  let c1_i32_80 : BitVec 32 := 1#32
  let v141 : BitVec 32 := Scalar.select v140 c1_i32_80 c8_i32_78
  let v142 : BitVec 32 := Scalar.remsi v139 v141
  let c0_i32_82 : BitVec 32 := 0#32
  let v144 : BitVec 1 := Scalar.cmpi .slt v142 c0_i32_82
  let c0_i32_83 : BitVec 32 := 0#32
  let v145 : BitVec 1 := Scalar.cmpi .slt v141 c0_i32_83
  let v146 : BitVec 1 := Scalar.xori v144 v145
  let c0_i32_81 : BitVec 32 := 0#32
  let v143 : BitVec 1 := Scalar.cmpi .ne v142 c0_i32_81
  let v147 : BitVec 1 := Scalar.andi v146 v143
  let v148 : BitVec 32 := Scalar.addi v142 v141
  let v149 : BitVec 32 := Scalar.select v147 v148 v142
  let c1_i32_85 : BitVec 32 := 1#32
  let v151 : BitVec 32 := Scalar.muli v149 c1_i32_85
  let v152 : BitVec 32 := Scalar.addi c0_i32_86 v151
  v152.toNat
def k0_dev15 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_90 : BitVec 32 := 7#32
  let v160 : BitVec 32 := Scalar.addi v2 c7_i32_90
  let c8_i32_91 : BitVec 32 := 8#32
  let c0_i32_92 : BitVec 32 := 0#32
  let v161 : BitVec 1 := Scalar.cmpi .eq c8_i32_91 c0_i32_92
  let c1_i32_93 : BitVec 32 := 1#32
  let v162 : BitVec 32 := Scalar.select v161 c1_i32_93 c8_i32_91
  let v163 : BitVec 32 := Scalar.remsi v160 v162
  let c0_i32_95 : BitVec 32 := 0#32
  let v165 : BitVec 1 := Scalar.cmpi .slt v163 c0_i32_95
  let c0_i32_96 : BitVec 32 := 0#32
  let v166 : BitVec 1 := Scalar.cmpi .slt v162 c0_i32_96
  let v167 : BitVec 1 := Scalar.xori v165 v166
  let c0_i32_94 : BitVec 32 := 0#32
  let v164 : BitVec 1 := Scalar.cmpi .ne v163 c0_i32_94
  let v168 : BitVec 1 := Scalar.andi v167 v164
  let v169 : BitVec 32 := Scalar.addi v163 v162
  let v170 : BitVec 32 := Scalar.select v168 v169 v163
  let c1_i32_98 : BitVec 32 := 1#32
  let v172 : BitVec 32 := Scalar.muli v170 c1_i32_98
  let v173 : BitVec 32 := Scalar.addi c0_i32_99 v172
  v173.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_103 : BitVec 32 := 512#32
  let v181 : BitVec 32 := Scalar.muli v2 c512_i32_103
  let v182 : Index := Scalar.indexCast v181
  let c0_104 : Index := 0#32
  ![v182.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_105 : BitVec 32 := 512#32
  let v184 : BitVec 32 := Scalar.muli v2 c512_i32_105
  let v185 : Index := Scalar.indexCast v184
  let c0_106 : Index := 0#32
  ![v185.toNat, 0]
def k0_off7 (d0 : Dev nD) (c1_i32_109 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v190 : BitVec 32 := Scalar.subi v2 c1_i32_109
  let c8_i32_110 : BitVec 32 := 8#32
  let c0_i32_111 : BitVec 32 := 0#32
  let v191 : BitVec 1 := Scalar.cmpi .eq c8_i32_110 c0_i32_111
  let c1_i32_112 : BitVec 32 := 1#32
  let v192 : BitVec 32 := Scalar.select v191 c1_i32_112 c8_i32_110
  let v193 : BitVec 32 := Scalar.remsi v190 v192
  let c0_i32_114 : BitVec 32 := 0#32
  let v195 : BitVec 1 := Scalar.cmpi .slt v193 c0_i32_114
  let c0_i32_115 : BitVec 32 := 0#32
  let v196 : BitVec 1 := Scalar.cmpi .slt v192 c0_i32_115
  let v197 : BitVec 1 := Scalar.xori v195 v196
  let c0_i32_113 : BitVec 32 := 0#32
  let v194 : BitVec 1 := Scalar.cmpi .ne v193 c0_i32_113
  let v198 : BitVec 1 := Scalar.andi v197 v194
  let v199 : BitVec 32 := Scalar.addi v193 v192
  let v200 : BitVec 32 := Scalar.select v198 v199 v193
  ![v200.toNat]
def k0_off8 (d0 : Dev nD) (c1_i32_109 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v190 : BitVec 32 := Scalar.subi v2 c1_i32_109
  let c8_i32_110 : BitVec 32 := 8#32
  let c0_i32_111 : BitVec 32 := 0#32
  let v191 : BitVec 1 := Scalar.cmpi .eq c8_i32_110 c0_i32_111
  let c1_i32_112 : BitVec 32 := 1#32
  let v192 : BitVec 32 := Scalar.select v191 c1_i32_112 c8_i32_110
  let v193 : BitVec 32 := Scalar.remsi v190 v192
  let c0_i32_114 : BitVec 32 := 0#32
  let v195 : BitVec 1 := Scalar.cmpi .slt v193 c0_i32_114
  let c0_i32_115 : BitVec 32 := 0#32
  let v196 : BitVec 1 := Scalar.cmpi .slt v192 c0_i32_115
  let v197 : BitVec 1 := Scalar.xori v195 v196
  let c0_i32_113 : BitVec 32 := 0#32
  let v194 : BitVec 1 := Scalar.cmpi .ne v193 c0_i32_113
  let v198 : BitVec 1 := Scalar.andi v197 v194
  let v199 : BitVec 32 := Scalar.addi v193 v192
  let v200 : BitVec 32 := Scalar.select v198 v199 v193
  let c0_i32_118 : BitVec 32 := 0#32
  let c0_i32_119 : BitVec 32 := 0#32
  ![v200.toNat, 0, 0]
def k0_off9 (d0 : Dev nD) (c1_i32_109 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v190 : BitVec 32 := Scalar.subi v2 c1_i32_109
  let c8_i32_110 : BitVec 32 := 8#32
  let c0_i32_111 : BitVec 32 := 0#32
  let v191 : BitVec 1 := Scalar.cmpi .eq c8_i32_110 c0_i32_111
  let c1_i32_112 : BitVec 32 := 1#32
  let v192 : BitVec 32 := Scalar.select v191 c1_i32_112 c8_i32_110
  let v193 : BitVec 32 := Scalar.remsi v190 v192
  let c0_i32_114 : BitVec 32 := 0#32
  let v195 : BitVec 1 := Scalar.cmpi .slt v193 c0_i32_114
  let c0_i32_115 : BitVec 32 := 0#32
  let v196 : BitVec 1 := Scalar.cmpi .slt v192 c0_i32_115
  let v197 : BitVec 1 := Scalar.xori v195 v196
  let c0_i32_113 : BitVec 32 := 0#32
  let v194 : BitVec 1 := Scalar.cmpi .ne v193 c0_i32_113
  let v198 : BitVec 1 := Scalar.andi v197 v194
  let v199 : BitVec 32 := Scalar.addi v193 v192
  let v200 : BitVec 32 := Scalar.select v198 v199 v193
  let v210 : Index := Scalar.indexCast v200
  let c0_124 : Index := 0#32
  let c0_125 : Index := 0#32
  ![v210.toNat, 0, 0]
def k0_off10 (d0 : Dev nD) (c1_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v190 : BitVec 32 := Scalar.subi v2 c1_i32_109
  let c8_i32_110 : BitVec 32 := 8#32
  let c0_i32_111 : BitVec 32 := 0#32
  let v191 : BitVec 1 := Scalar.cmpi .eq c8_i32_110 c0_i32_111
  let c1_i32_112 : BitVec 32 := 1#32
  let v192 : BitVec 32 := Scalar.select v191 c1_i32_112 c8_i32_110
  let v193 : BitVec 32 := Scalar.remsi v190 v192
  let c0_i32_114 : BitVec 32 := 0#32
  let v195 : BitVec 1 := Scalar.cmpi .slt v193 c0_i32_114
  let c0_i32_115 : BitVec 32 := 0#32
  let v196 : BitVec 1 := Scalar.cmpi .slt v192 c0_i32_115
  let v197 : BitVec 1 := Scalar.xori v195 v196
  let c0_i32_113 : BitVec 32 := 0#32
  let v194 : BitVec 1 := Scalar.cmpi .ne v193 c0_i32_113
  let v198 : BitVec 1 := Scalar.andi v197 v194
  let v199 : BitVec 32 := Scalar.addi v193 v192
  let v200 : BitVec 32 := Scalar.select v198 v199 v193
  let c512_i32_126 : BitVec 32 := 512#32
  let v213 : BitVec 32 := Scalar.muli v200 c512_i32_126
  let v214 : Index := Scalar.indexCast v213
  let c0_127 : Index := 0#32
  ![v214.toNat, 0]
def k0_off11 (d0 : Dev nD) (c1_i32_268 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v405 : BitVec 32 := Scalar.addi v2 c1_i32_268
  let c8_i32_269 : BitVec 32 := 8#32
  let c0_i32_270 : BitVec 32 := 0#32
  let v406 : BitVec 1 := Scalar.cmpi .eq c8_i32_269 c0_i32_270
  let c1_i32_271 : BitVec 32 := 1#32
  let v407 : BitVec 32 := Scalar.select v406 c1_i32_271 c8_i32_269
  let v408 : BitVec 32 := Scalar.remsi v405 v407
  let c0_i32_273 : BitVec 32 := 0#32
  let v410 : BitVec 1 := Scalar.cmpi .slt v408 c0_i32_273
  let c0_i32_274 : BitVec 32 := 0#32
  let v411 : BitVec 1 := Scalar.cmpi .slt v407 c0_i32_274
  let v412 : BitVec 1 := Scalar.xori v410 v411
  let c0_i32_272 : BitVec 32 := 0#32
  let v409 : BitVec 1 := Scalar.cmpi .ne v408 c0_i32_272
  let v413 : BitVec 1 := Scalar.andi v412 v409
  let v414 : BitVec 32 := Scalar.addi v408 v407
  let v415 : BitVec 32 := Scalar.select v413 v414 v408
  let c0_i32_278 : BitVec 32 := 0#32
  let c0_i32_279 : BitVec 32 := 0#32
  ![v415.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdeal.Protocol.lean ====
/-
# The exchange: semaphores, contents and the schedule

Every device `c` of the eight rounds its column block of `x` to bf16 (`xbF c`, 4096 rows) and sends row block `j` of it
to device `j`, for every `j ≠ c`. What lands from device `j` is slot `j` of the receiver's buffer of eight slots.

* Barrier cell of `c`: every other device `d` adds one unit, and with it hands `c` the right to write slot `c` of
  `d`'s buffer. `c` waits for 7.
* Receive cell `(c, j)`: the copy from `j` to `c` adds the credit of one 512×512 bf16 block. `c` waits for it and gets
  slot `j` holding the block.
* Send cell `(c, j)`: the same copy `c → j`, read out of its source, adds the same credit at `c`. `c` waits for it last
  and gets row block `j` of its own rounded `x` back.

The cells `(c, c)` carry nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the staging copies' rounds beside the exchange's, whose duties are named by devices -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## Peers -/

set_option backward.proofsInPublic true in
/-- The device `t` places after `c`. -/
def up (c : Dev nD) (t : ℕ) : Dev nD := ⟨(c.val + t) % 8, Nat.mod_lt _ (by decide)⟩
set_option backward.proofsInPublic true in
/-- The device `t` places before `c`. -/
def dn (c : Dev nD) (t : ℕ) : Dev nD := ⟨(c.val + 8 - t) % 8, Nat.mod_lt _ (by decide)⟩

/-! ## The buffers, their pieces and the semaphores -/

abbrev xM : Memref sig .tc .vmem S4096x512 .f32 := Memref.whole cc0_stg0_0
abbrev wM : Memref sig .tc .vmem S4096x2048 .f32 := Memref.whole cc0_stg1_0
abbrev oM : Memref sig .tc .vmem S512x2048 .f32 := Memref.whole cc0_stg2_0
abbrev bM : Memref sig .tc .vmem S4096x512 .bf16 := Memref.whole cc0_scratch0
abbrev kM : Memref sig .tc .vmem S8x512x512 .bf16 := Memref.whole cc0_scratch1

theorem row_inb (j : Dev nD) : ∀ a, (![512 * j.val, 0] : Fin 2 → Nat) a + S512x512.size a ≤ S4096x512.size a := by
  revert j; decide
theorem slot_inb (j : Dev nD) : ∀ a, (![j.val, 0, 0] : Fin 3 → Nat) a + S1x512x512.size a ≤ S8x512x512.size a := by
  revert j; decide
theorem sem_inb (j : Dev nD) : ∀ a, (![j.val] : Fin 1 → Nat) a + S1.size a ≤ S8.size a := by
  revert j; decide
theorem wrow_inb (j : Dev nD) : ∀ a, (![512 * j.val, 0] : Fin 2 → Nat) a + S512x2048.size a ≤ S4096x2048.size a := by
  revert j; decide

/-- Rows `512 j …` of the rounded block, slot `j` of the receive buffer, rows `512 j …` of `w`. -/
abbrev rowR (j : Dev nD) : Rect S4096x512 := Rect.unit (s := S4096x512) ![512 * j.val, 0] S512x512.size (row_inb j)
abbrev slotR (j : Dev nD) : Rect S8x512x512 := Rect.unit (s := S8x512x512) ![j.val, 0, 0] S1x512x512.size (slot_inb j)
abbrev wrowR (j : Dev nD) : Rect S4096x2048 := Rect.unit (s := S4096x2048) ![512 * j.val, 0] S512x2048.size (wrow_inb j)

abbrev rowM (j : Dev nD) : Memref sig .tc .vmem S512x512 .bf16 := bM.slice (rowR j) (fun _ => rfl)
abbrev slotM (j : Dev nD) : Memref sig .tc .vmem S512x512 .bf16 :=
  (kM.slice (slotR j) (fun _ => rfl)).squeeze S512x512 squeezes_S1x512x512_S512x512

abbrev barS : Sem sig := (SemArray.scalar (sig.barrier 0 rfl) : Sems sig S_).sem
abbrev sendS (j : Dev nD) : DmaSem sig :=
  ((cc0_scratch2.slice (Rect.unit (s := S8) ![j.val] S1.size (sem_inb j))).squeeze S_ squeezes_S1_S_).sem
abbrev recvS (j : Dev nD) : DmaSem sig :=
  ((cc0_scratch3.slice (Rect.unit (s := S8) ![j.val] S1.size (sem_inb j))).squeeze S_ squeezes_S1_S_).sem

theorem sendS_val : ∀ j : Dev nD, (sendS j).val = 3 + j.val := by decide
theorem recvS_val : ∀ j : Dev nD, (recvS j).val = 11 + j.val := by decide

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- The credit of one 512×512 bf16 block. -/
abbrev N : ℕ := (slotM 0).view.dmaCredit
theorem N_pos : 0 < N := View.dmaCredit_pos _ (by decide)

/-! ## Contents -/

/-- The column block of `x` and the weights, as staged on `c`. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The rounded block that device `c` sends from. -/
def xbF (c : Dev nD) : (cc0_scratch0 : Ref sig .tc).ty.Contents (Elt F) := k0_pay1 (xstg m c)

/-- The receive buffer of `c` with every block landed: slot `j` holds row block `c` of `j`'s rounded block. -/
def landF (c : Dev nD) : (cc0_scratch1 : Ref sig .tc).ty.Contents (Elt F) := fun i =>
  (slotM (i (0 : Fin 3))).view.write (Elt F) (fun _ => (FloatOps.ofBits .bf16 0#16 : F .bf16)) ((rowM c).view.read (Elt F) (xbF m (i (0 : Fin 3)))) Finset.univ i

theorem row_set (j : Dev nD) : (rowM j).view.set = (rowR j).set := View.set_slice_whole _ _
theorem slot_set (j : Dev nD) : (slotM j).view.set = (slotR j).set := (View.set_reshape _ _).trans (View.set_slice_whole _ _)

/-- What the landing of `j`'s copy leaves in slot `j` is `landF` there, whatever was in the buffer before. -/
theorem landed_eq (c j : Dev nD) (fd : (cc0_scratch1 : Ref sig .tc).ty.Contents (Elt F)) :
    ∀ i ∈ (slotM j).view.set, (slotM j).view.write (Elt F) fd ((rowM c).view.read (Elt F) (xbF m j)) Finset.univ i = landF m c i := by
  intro i hi
  have h0 : i (0 : Fin 3) = j := by
    have h := Rect.mem_set_unit.mp ((slot_set j) ▸ hi) (0 : Fin 3)
    have h1 : j.val ≤ (i (0 : Fin 3)).val ∧ (i (0 : Fin 3)).val < j.val + 1 := h
    exact Fin.ext (by omega)
  obtain ⟨x, -, rfl⟩ := Finset.mem_map.mp hi
  unfold landF
  rw [h0]
  exact ((slotM j).view.write_emb_of_mem _ _ (Finset.mem_univ x)).trans ((slotM j).view.write_emb_of_mem _ _ (Finset.mem_univ x)).symm

/-! ## Pieces held -/

def rowPts (c j : Dev nD) (f : (cc0_scratch0 : Ref sig .tc).ty.Contents (Elt F)) : sProp 𝕄 :=
  (rowM j).view.loc (c : Thread nD τ) ↦[(rowM j).view.set]{fullShare} f
def slotPts (c j : Dev nD) (f : (cc0_scratch1 : Ref sig .tc).ty.Contents (Elt F)) : sProp 𝕄 :=
  (slotM j).view.loc (c : Thread nD τ) ↦[(slotM j).view.set]{fullShare} f

omit [FloatOps F] in
instance rowPts_storable (c j : Dev nD) (f) : BI.Storable (upEmb : UEmb _ 𝕄) (rowPts (F := F) c j f) := by
  unfold rowPts; infer_instance
omit [FloatOps F] in
instance slotPts_storable (c j : Dev nD) (f) : BI.Storable (upEmb : UEmb _ 𝕄) (slotPts (F := F) c j f) := by
  unfold slotPts; infer_instance

/-! ## The schedule -/

/-- What device `d`'s unit on `c`'s barrier hands to `c`: slot `c` of `d`'s buffer, and that `d` is at round 0 of its
    receive cell for `c`. -/
def barPay (c d : Dev nD) : sProp 𝕄 := iprop((∃ f, slotPts d c f) ∗ reached ER (recvCell d c) 0)

omit [FloatOps F] in
instance barPay_storable (c d : Dev nD) : BI.Storable (upEmb : UEmb _ 𝕄) (barPay (F := F) c d) := by
  unfold barPay; infer_instance

/-- The semaphores of the copies for peer `j`. -/
abbrev IsXfer (s : SemLoc sig) (j : Dev nD) : Prop := s = .dma (sendS j) ∨ s = .dma (recvS j)
abbrev IsSend (s : SemLoc sig) : Prop := ∃ j : Dev nD, s = .dma (sendS j)
abbrev IsRecv (s : SemLoc sig) : Prop := ∃ j : Dev nD, s = .dma (recvS j)

/-- One round. A barrier cell has a duty of one unit from each other device, a send or receive cell `(c, j)` with
    `j ≠ c` the one duty `j` of a block's credit. -/
def Rd : Rounds.Schedule (GSem nD τ sig) (Dev nD) 𝕄 where
  duties g r := if r = 0 ∧ g.1.2 = .tc then Finset.univ.filter fun d => d ≠ g.1.1 ∧ (g.2 = .reg barS ∨ IsXfer g.2 d) else ∅
  unitless _ := False
  amount g _ _ := if g.2 = .reg barS then 1 else N
  payload g _ d :=
    if g.2 = .reg barS then barPay g.1.1 d
    else if IsSend g.2 then rowPts g.1.1 d (xbF m g.1.1)
    else slotPts g.1.1 d (landF m g.1.1)
  amount_pos g _ _ _ := by
    by_cases h : g.2 = .reg barS
    · rw [if_pos h]; exact Nat.one_pos
    · rw [if_neg h]; exact N_pos

instance Rd_storable (g : GSem nD τ sig) (r : ℕ) (d : Dev nD) :
    BI.Storable (upEmb : UEmb _ 𝕄) ((Rd (F := F) m).payload g r d) := by
  show BI.Storable upEmb (if g.2 = .reg barS then barPay g.1.1 d else if IsSend g.2 then rowPts g.1.1 d (xbF m g.1.1)
    else slotPts g.1.1 d (landF m g.1.1))
  (repeat' split) <;> infer_instance

theorem sendS_inj {i j : Dev nD} (h : (SemLoc.dma (sendS i) : SemLoc sig) = .dma (sendS j)) : i = j := by
  revert i j; decide
theorem recvS_inj {i j : Dev nD} (h : (SemLoc.dma (recvS i) : SemLoc sig) = .dma (recvS j)) : i = j := by
  revert i j; decide
theorem send_ne_recv (i j : Dev nD) : (SemLoc.dma (sendS i) : SemLoc sig) ≠ .dma (recvS j) := by
  revert i j; decide
theorem send_ne_bar (j : Dev nD) : (SemLoc.dma (sendS j) : SemLoc sig) ≠ .reg barS := fun h => by cases h
theorem recv_ne_bar (j : Dev nD) : (SemLoc.dma (recvS j) : SemLoc sig) ≠ .reg barS := fun h => by cases h
theorem not_isSend_recv (j : Dev nD) : ¬ IsSend (.dma (recvS j)) := fun ⟨i, h⟩ => send_ne_recv i j h.symm

section Sched
variable (c j : Dev nD)

theorem duties_bar : (Rd (F := F) m).duties (barCell c) 0 = Finset.univ.erase c := by
  dsimp only [Rd]; rw [if_pos ⟨rfl, rfl⟩]
  ext d; simp
theorem duties_send (h : j ≠ c) : (Rd (F := F) m).duties (sendCell c j) 0 = {j} := by
  dsimp only [Rd]; rw [if_pos ⟨rfl, rfl⟩]
  ext d
  simp only [Finset.mem_filter, Finset.mem_univ, true_and, Finset.mem_singleton]
  constructor
  · rintro ⟨-, h' | h' | h'⟩
    · exact absurd h' (send_ne_bar j)
    · exact (sendS_inj h').symm
    · exact absurd h' (send_ne_recv j d)
  · rintro rfl; exact ⟨h, .inr (.inl rfl)⟩
theorem duties_recv (h : j ≠ c) : (Rd (F := F) m).duties (recvCell c j) 0 = {j} := by
  dsimp only [Rd]; rw [if_pos ⟨rfl, rfl⟩]
  ext d
  simp only [Finset.mem_filter, Finset.mem_univ, true_and, Finset.mem_singleton]
  constructor
  · rintro ⟨-, h' | h' | h'⟩
    · exact absurd h' (recv_ne_bar j)
    · exact absurd h'.symm (send_ne_recv d j)
    · exact (recvS_inj h').symm
  · rintro rfl; exact ⟨h, .inr (.inr rfl)⟩
theorem duties_later (g : GSem nD τ sig) : ∀ r, 1 ≤ r → (Rd (F := F) m).duties g r = ∅ :=
  fun r hr => by dsimp only [Rd]; rw [if_neg fun h => by omega]
theorem duties_send_self : ∀ r, 0 ≤ r → (Rd (F := F) m).duties (sendCell c c) r = ∅ := fun r _ => by
  dsimp only [Rd]
  split_ifs with h
  · refine Finset.filter_eq_empty_iff.mpr fun d _ hd => ?_
    rcases hd.2 with h' | h' | h'
    · cases h'
    · exact hd.1 (sendS_inj h').symm
    · exact send_ne_recv c d h'
  · rfl
theorem duties_recv_self : ∀ r, 0 ≤ r → (Rd (F := F) m).duties (recvCell c c) r = ∅ := fun r _ => by
  dsimp only [Rd]
  split_ifs with h
  · refine Finset.filter_eq_empty_iff.mpr fun d _ hd => ?_
    rcases hd.2 with h' | h' | h'
    · cases h'
    · exact send_ne_recv d c h'.symm
    · exact hd.1 (recvS_inj h').symm
  · rfl

theorem amount_bar (d : Dev nD) : (Rd (F := F) m).amount (barCell c) 0 d = 1 := by dsimp only [Rd]; exact if_pos rfl
theorem amount_send (d : Dev nD) : (Rd (F := F) m).amount (sendCell c j) 0 d = N := by dsimp only [Rd]; exact if_neg (send_ne_bar j)
theorem amount_recv (d : Dev nD) : (Rd (F := F) m).amount (recvCell c j) 0 d = N := by dsimp only [Rd]; exact if_neg (recv_ne_bar j)

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ c),
    Finset.card_univ, Fintype.card_fin, smul_eq_mul]
  rfl
theorem expect_send (h : j ≠ c) : (Rd (F := F) m).expect (sendCell c j) 0 = N := by
  unfold Schedule.expect Schedule.amountOf; rw [duties_send m c j h, Finset.sum_singleton, amount_send]
theorem expect_recv (h : j ≠ c) : (Rd (F := F) m).expect (recvCell c j) 0 = N := by
  unfold Schedule.expect Schedule.amountOf; rw [duties_recv m c j h, Finset.sum_singleton, amount_recv]

theorem payload_bar (d : Dev nD) : (Rd (F := F) m).payload (barCell c) 0 d = barPay c d := by dsimp only [Rd]; rw [if_pos rfl]
theorem payload_send (d : Dev nD) : (Rd (F := F) m).payload (sendCell c j) 0 d = rowPts c d (xbF m c) := by
  dsimp only [Rd]; rw [if_neg (send_ne_bar j), if_pos ⟨j, rfl⟩]
theorem payload_recv (d : Dev nD) : (Rd (F := F) m).payload (recvCell c j) 0 d = slotPts c d (landF m c) := by
  dsimp only [Rd]; rw [if_neg (recv_ne_bar j), if_neg (not_isSend_recv j)]

theorem rest_bar : bigSep ((Rd (F := F) m).duties (barCell c) 0 \ ∅) (fun d => (Rd (F := F) m).payload (barCell c) 0 d)
    = bigSep (Finset.univ.erase c) fun d => barPay c d := by
  rw [Finset.sdiff_empty, duties_bar]; exact bigSep_congr fun d _ => payload_bar m c d
theorem rest_send (h : j ≠ c) : bigSep ((Rd (F := F) m).duties (sendCell c j) 0 \ ∅) (fun d => (Rd (F := F) m).payload (sendCell c j) 0 d)
    = rowPts c j (xbF m c) := by
  rw [Finset.sdiff_empty, duties_send m c j h, bigSep_singleton, payload_send]
theorem rest_recv (h : j ≠ c) : bigSep ((Rd (F := F) m).duties (recvCell c j) 0 \ ∅) (fun d => (Rd (F := F) m).payload (recvCell c j) 0 d)
    = slotPts c j (landF m c) := by
  rw [Finset.sdiff_empty, duties_recv m c j h, bigSep_singleton, payload_recv]

end Sched

/-! ## What each device owes at launch, and the levels -/

/-- The credit `c` owes device `j`'s receive cell, and the unit it owes `j`'s barrier: nothing to itself. -/
def owR (c j : Dev nD) : CellTallies nD τ sig Unit := tallyAt (recvCell j c) () N
def owB (c j : Dev nD) : CellTallies nD τ sig Unit := if j = c then 0 else tallyAt (barCell j) () 1

/-- The copies still owed before the `t`-th, last copy innermost. -/
def OR (c : Dev nD) : ℕ → CellTallies nD τ sig Unit
  | 0 => 0
  | n + 1 => OR c n + owR c (up c (7 - n))
/-- That, and the barrier units still owed to the last `n` devices. -/
def OB (c : Dev nD) : ℕ → CellTallies nD τ sig Unit
  | 0 => OR c 7
  | n + 1 => OB c n + owB c ⟨(7 - n) % 8, Nat.mod_lt _ (by decide)⟩
def O₀ (c : Dev nD) : CellTallies nD τ sig Unit := OB c 8

def L (g : GSem nD τ sig) : Finset Unit := if g.1.2 = .tc then {()} else ∅
/-- Barrier cells at 1, receive cells at 2, the rest at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem OR_pos {c : Dev nD} {g : GSem nD τ sig} {u : Unit} : ∀ n, 0 < OR c n g u → ∃ j, g = recvCell j c
  | 0, h => absurd h (Nat.lt_irrefl 0)
  | n + 1, h => by
    unfold OR owR at h
    rw [Pi.add_apply, Finsupp.add_apply, tallyAt_apply] at h
    by_cases h' : g = recvCell (up c (7 - n)) c ∧ u = ()
    · exact ⟨_, h'.1⟩
    · rw [if_neg h', Nat.add_zero] at h; exact OR_pos n h
theorem OB_pos {c : Dev nD} {g : GSem nD τ sig} {u : Unit} : ∀ n, 0 < OB c n g u → (∃ j, g = recvCell j c) ∨ ∃ j, g = barCell j
  | 0, h => .inl (OR_pos 7 h)
  | n + 1, h => by
    unfold OB owB at h
    rw [Pi.add_apply, Finsupp.add_apply] at h
    split_ifs at h with h'
    · rw [Pi.zero_apply, Finsupp.zero_apply, Nat.add_zero] at h; exact OB_pos n h
    · rw [tallyAt_apply] at h
      by_cases h'' : g = barCell ⟨(7 - n) % 8, Nat.mod_lt _ (by decide)⟩ ∧ u = ()
      · exact .inr ⟨_, h''.1⟩
      · rw [if_neg h'', Nat.add_zero] at h; exact OB_pos n h

theorem lv_recv (c j : Dev nD) (u : Unit) : lv (recvCell c j) u = 2 := by
  unfold lv; rw [if_neg (recv_ne_bar j), if_pos ⟨j, rfl⟩]
theorem lv_bar (c : Dev nD) (u : Unit) : lv (barCell c) u = 1 := by unfold lv; rw [if_pos rfl]

/-- A wait on a staging semaphore, below everything owed at launch. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos 8 hg with ⟨j, rfl⟩ | ⟨j, rfl⟩ <;> exact Finset.mem_singleton_self _)
      (fun p hp => by rw [Finset.mem_singleton.mp hp]; dsimp only [lv]; rw [if_neg (fun h => by cases h), if_neg hq])
      (fun g u hg => by
        rcases OB_pos 8 hg with ⟨j, rfl⟩ | ⟨j, rfl⟩
        · rw [lv_recv]; decide
        · rw [lv_bar]; decide)
  · rw [MayWait_zero]; iintro -; iempintro

/-- The barrier wait, below the copies still owed. -/
theorem mayWait_bar (c : Dev nD) : (levAts L lv : sProp 𝕄) ⊢ MayWait (c : Thread nD τ) (.reg barS) () (OR c 7) :=
  MayOwe.of_cut (L := L) (lev := lv) 1 (fun p hp => by rw [Finset.mem_singleton.mp hp, L_tc]; exact Finset.mem_singleton_self _)
    (fun g u hg => by obtain ⟨j, rfl⟩ := OR_pos 7 hg; exact Finset.mem_singleton_self _)
    (fun p hp => by rw [Finset.mem_singleton.mp hp]; dsimp only [lv]; rw [if_pos rfl])
    (fun g u hg => by obtain ⟨j, rfl⟩ := OR_pos 7 hg; rw [lv_recv]; decide)

end Cert.KernelIdealProof

end
-- ==== Proof.KernelIdeal.Data.lean ====
/-
# What a device starts from and what it ends with

The result in terms of the skeleton's payloads (`outAt`), the exchange's ghost state at a device's start, and the proof
data of the one-point pipeline that stages `x` and `w` in and the result out.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- What `c` reads of its weights for device `j`'s block, of slot `j`, and of its own rounded rows. -/
def wblk (c j : Dev nD) : Vec F S512x2048 .f32 := wM.view.readAt (Elt F) (wrowR j).toLoadRect (wstg m c)
def kblk (c j : Dev nD) : Vec F S1x512x512 .bf16 := kM.view.readAt (Elt F) (slotR j).toLoadRect (landF m c)
def xblk (c : Dev nD) : Vec F S512x512 .bf16 := bM.view.readAt (Elt F) (rowR c).toLoadRect (xbF m c)

/-- The sum after the device's own product and the first `t` received ones. -/
def acc (c : Dev nD) : ℕ → (cc0_stg2_0 : Ref sig .tc).ty.Contents (Elt F)
  | 0 => k0_pay2 (xblk m c) (wblk m c c)
  | t + 1 => k0_pay3 (acc c t) (kblk m c (dn c (t + 1))) (wblk m c (dn c (t + 1)))

def outAt (c : Dev nD) : (cc0_stg2_0 : Ref sig .tc).ty.Contents (Elt F) := k0_pay15 (acc m c 7)

/-! ## The cells -/

/-- A device's cells: its barrier, its send cells, its receive cells. -/
abbrev CIx : Type := Unit ⊕ (Dev nD ⊕ Dev nD)
abbrev osem : Dev nD ⊕ Dev nD → SemLoc sig := fun | .inl j => .dma (sendS j) | .inr j => .dma (recvS j)
abbrev csem : CIx → SemLoc sig := fun | .inl _ => .reg barS | .inr k => osem k
abbrev kcell (ck : Dev nD × CIx) : GSem nD τ sig := ((ck.1 : Thread nD τ), csem ck.2)

abbrev KNames : Type := Dev nD × CIx → ℕ

/-- Every cell's invariant, and that every cell has reached round 0: known to all devices. -/
def records (K : KNames) : sProp 𝕄 :=
  iprop((bigSep Finset.univ fun ck : Dev nD × CIx => cellInv ER (Rd m) (K ck) (kcell ck))
    ∗ bigSep Finset.univ fun ck : Dev nD × CIx => reached ER (kcell ck) 0)

instance records_persistent (K : KNames) : BI.Persistent (records m K) := by unfold records; infer_instance

theorem inv_at (K : KNames) (ck : Dev nD × CIx) : records m K ⊢ cellInv ER (Rd m) (K ck) (kcell ck) := by
  unfold records
  iintro ⟨#HI, -⟩
  iapply (show (bigSep Finset.univ fun ck : Dev nD × CIx => (cellInv ER (Rd m) (K ck) (kcell ck) : sProp 𝕄)) ⊢ _ from bigSep_elim (Finset.mem_univ ck))
  iexact HI
theorem reached_at (K : KNames) (ck : Dev nD × CIx) : records m K ⊢ reached ER (kcell ck) 0 := by
  unfold records
  iintro ⟨-, #HR⟩
  iapply (show (bigSep Finset.univ fun ck : Dev nD × CIx => (reached ER (kcell ck) 0 : sProp 𝕄)) ⊢ _ from bigSep_elim (Finset.mem_univ ck))
  iexact HR

/-- Positions at round 0 of a device's own cells. -/
def posns (c : Dev nD) : sProp 𝕄 :=
  iprop(atPos ER (barCell c) 0 ∅ 0 ∗ (bigSep Finset.univ fun j => atPos ER (sendCell c j) 0 ∅ 0)
    ∗ bigSep Finset.univ fun j => atPos ER (recvCell c j) 0 ∅ 0)

/-- The tokens of the duties that `c` pays: at every barrier, at its own send cells, at everyone's receive cell for it. -/
def payToks (c : Dev nD) : sProp 𝕄 :=
  iprop((bigSep Finset.univ fun j => dutyTok ER (barCell j) 0 c)
    ∗ (bigSep Finset.univ fun j => dutyTok ER (sendCell c j) 0 j)
    ∗ bigSep Finset.univ fun j => dutyTok ER (recvCell j c) 0 c)

def ghost (K : KNames) (c : Dev nD) : sProp 𝕄 := iprop(records m K ∗ posns c ∗ payToks c)

/-- What `c` is owed at launch: seven barrier units and the credit of every block it is sent. -/
def creds (c : Dev nD) : sProp 𝕄 :=
  iprop(cred (tallyAt (barCell c) () 7) ∗ bigSep (Finset.univ.erase c) fun j => cred (tallyAt (recvCell c j) () N))

def start (c : Dev nD) : sProp 𝕄 := iprop((∃ K, ghost m K c) ∗ creds c ∗ levAts L lv)

/-- The two buffers of the kernel's own, whole, at some contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ bufs c)
def Φ₁ (c : Dev nD) : sProp 𝕄 :=
  iprop(bufs c ∗ (bigSep Finset.univ fun j => semVal (sendCell c j) 0) ∗ (bigSep Finset.univ fun j => semVal (recvCell c j) 0)
    ∗ semVal (barCell c) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : KNames) (c : Dev nD) : sProp 𝕄 :=
  iprop((ghost m K c ∗ creds c ∗ levAts L lv ∗ bufs c)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (xstg m c) ∗ stg c cc0_stg1_0 (wstg m c) ∗ stg c cc0_stg2_0 (outAt m c))

/-! ## Enumerating a device's peers -/

/-- Every device, as seen from `c`: itself and its seven peers, upwards or downwards. -/
theorem univ_up (c : Dev nD) : (Finset.univ : Finset (Dev nD)) = [c, up c 1, up c 2, up c 3, up c 4, up c 5, up c 6, up c 7].toFinset := by
  revert c; decide
theorem nodup_up (c : Dev nD) : [c, up c 1, up c 2, up c 3, up c 4, up c 5, up c 6, up c 7].Nodup := by revert c; decide
theorem univ_dn (c : Dev nD) : (Finset.univ : Finset (Dev nD)) = [c, dn c 1, dn c 2, dn c 3, dn c 4, dn c 5, dn c 6, dn c 7].toFinset := by
  revert c; decide
theorem nodup_dn (c : Dev nD) : [c, dn c 1, dn c 2, dn c 3, dn c 4, dn c 5, dn c 6, dn c 7].Nodup := by revert c; decide
theorem erase_up (c : Dev nD) : (Finset.univ.erase c : Finset (Dev nD)) = [up c 1, up c 2, up c 3, up c 4, up c 5, up c 6, up c 7].toFinset := by
  revert c; decide
theorem erase_dn (c : Dev nD) : (Finset.univ.erase c : Finset (Dev nD)) = [dn c 1, dn c 2, dn c 3, dn c 4, dn c 5, dn c 6, dn c 7].toFinset := by
  revert c; decide

omit [FloatOps F] in
theorem all_up (c : Dev nD) (Φ : Dev nD → sProp 𝕄) : bigSep Finset.univ Φ
    = iprop(Φ c ∗ Φ (up c 1) ∗ Φ (up c 2) ∗ Φ (up c 3) ∗ Φ (up c 4) ∗ Φ (up c 5) ∗ Φ (up c 6) ∗ Φ (up c 7)) :=
  bigSep_univ_eq_bigSepL _ (univ_up c) (nodup_up c) Φ
omit [FloatOps F] in
theorem all_dn (c : Dev nD) (Φ : Dev nD → sProp 𝕄) : bigSep Finset.univ Φ
    = iprop(Φ c ∗ Φ (dn c 1) ∗ Φ (dn c 2) ∗ Φ (dn c 3) ∗ Φ (dn c 4) ∗ Φ (dn c 5) ∗ Φ (dn c 6) ∗ Φ (dn c 7)) :=
  bigSep_univ_eq_bigSepL _ (univ_dn c) (nodup_dn c) Φ
omit [FloatOps F] in
theorem others_up (c : Dev nD) (Φ : Dev nD → sProp 𝕄) : bigSep (Finset.univ.erase c) Φ
    = iprop(Φ (up c 1) ∗ Φ (up c 2) ∗ Φ (up c 3) ∗ Φ (up c 4) ∗ Φ (up c 5) ∗ Φ (up c 6) ∗ Φ (up c 7)) :=
  bigSep_eq_bigSepL_of_eq _ (erase_up c) (List.nodup_cons.mp (nodup_up c)).2 Φ
omit [FloatOps F] in
theorem others_dn (c : Dev nD) (Φ : Dev nD → sProp 𝕄) : bigSep (Finset.univ.erase c) Φ
    = iprop(Φ (dn c 1) ∗ Φ (dn c 2) ∗ Φ (dn c 3) ∗ Φ (dn c 4) ∗ Φ (dn c 5) ∗ Φ (dn c 6) ∗ Φ (dn c 7)) :=
  bigSep_eq_bigSepL_of_eq _ (erase_dn c) (List.nodup_cons.mp (nodup_dn c)).2 Φ
omit [FloatOps F] in
theorem all_abs (Φ : Dev nD → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The two buffers, whole and in pieces -/

theorem rows_disjoint (j j' : Dev nD) (h : j ≠ j') : Disjoint (rowM j).view.set (rowM j').view.set := by
  rw [row_set, row_set]
  exact Rect.unit_disjoint (0 : Fin 2) (show 512 * j.val + 512 ≤ 512 * j'.val ∨ 512 * j'.val + 512 ≤ 512 * j.val by
    have hne : j.val ≠ j'.val := fun e => h (Fin.ext e)
    rcases Nat.lt_or_gt_of_ne hne with hlt | hlt
    · left; omega
    · right; omega)
theorem slots_disjoint (j j' : Dev nD) (h : j ≠ j') : Disjoint (slotM j).view.set (slotM j').view.set := by
  rw [slot_set, slot_set]
  exact Rect.unit_disjoint (0 : Fin 3) (show j.val + 1 ≤ j'.val ∨ j'.val + 1 ≤ j.val by
    have hne : j.val ≠ j'.val := fun e => h (Fin.ext e)
    rcases Nat.lt_or_gt_of_ne hne with hlt | hlt
    · left; omega
    · right; omega)

/-- The same element sets, as sets of the whole buffers' indices. -/
abbrev rowSet (j : Dev nD) : Finset S4096x512.Idx := (rowM j).view.set
abbrev slotSet (j : Dev nD) : Finset S8x512x512.Idx := (slotM j).view.set

theorem rows_cover : (Finset.univ.biUnion fun j : Dev nD => rowSet j) = Finset.univ := by
  refine Finset.eq_univ_of_forall fun (i : S4096x512.Idx) => Finset.mem_biUnion.mpr
    ⟨⟨(i (0 : Fin 2)).val / 512, Nat.div_lt_of_lt_mul (i (0 : Fin 2)).isLt⟩, Finset.mem_univ _, ?_⟩
  rw [rowSet, row_set]
  refine Rect.mem_set_unit.mpr fun a => ?_
  match a with
  | ⟨0, _⟩ => exact (show 512 * ((i (0 : Fin 2)).val / 512) ≤ (i (0 : Fin 2)).val ∧ (i (0 : Fin 2)).val < 512 * ((i (0 : Fin 2)).val / 512) + 512 by omega)
  | ⟨1, _⟩ => exact ⟨Nat.zero_le _, (Nat.zero_add _).symm ▸ (i (1 : Fin 2)).isLt⟩
theorem slots_cover : (Finset.univ.biUnion fun j : Dev nD => slotSet j) = Finset.univ := by
  refine Finset.eq_univ_of_forall fun (i : S8x512x512.Idx) => Finset.mem_biUnion.mpr ⟨i (0 : Fin 3), Finset.mem_univ _, ?_⟩
  refine (show i ∈ (slotR (i (0 : Fin 3))).set → i ∈ slotSet (i (0 : Fin 3)) from
    (Finset.ext_iff.mp (slot_set (i (0 : Fin 3))) i).mpr) ?_
  refine Rect.mem_set_unit.mpr fun a => ?_
  match a with
  | ⟨0, _⟩ => exact ⟨le_refl _, Nat.lt_succ_self _⟩
  | ⟨1, _⟩ => exact ⟨Nat.zero_le _, (Nat.zero_add _).symm ▸ (i (1 : Fin 3)).isLt⟩
  | ⟨2, _⟩ => exact ⟨Nat.zero_le _, (Nat.zero_add _).symm ▸ (i (2 : Fin 3)).isLt⟩

omit [FloatOps F] in
theorem rows_split (c : Dev nD) (f : (cc0_scratch0 : Ref sig .tc).ty.Contents (Elt F)) :
    (((c : Thread nD τ).loc cc0_scratch0) ↦{fullShare} f : sProp 𝕄) = bigSep Finset.univ fun j => rowPts c j f :=
  Ring.pointsTo_blocks (ℓ := (c : Thread nD τ).loc cc0_scratch0) (fun j : Dev nD => (rowM j).view.set) rows_disjoint rows_cover f
omit [FloatOps F] in
theorem slots_split (c : Dev nD) (f : (cc0_scratch1 : Ref sig .tc).ty.Contents (Elt F)) :
    (((c : Thread nD τ).loc cc0_scratch1) ↦{fullShare} f : sProp 𝕄) = bigSep Finset.univ fun j => slotPts c j f :=
  Ring.pointsTo_blocks (ℓ := (c : Thread nD τ).loc cc0_scratch1) (fun j : Dev nD => (slotM j).view.set) slots_disjoint slots_cover f
omit [FloatOps F] in
theorem slots_join (c : Dev nD) (f₀ : (cc0_scratch1 : Ref sig .tc).ty.Contents (Elt F)) :
    (bigSep Finset.univ fun j => iprop(∃ f, slotPts c j f))
      ⊢ (iprop(∃ f : Buf (Elt F) ((c : Thread nD τ).loc cc0_scratch1), ((c : Thread nD τ).loc cc0_scratch1) ↦{fullShare} f) : sProp 𝕄) :=
  Ring.pointsTo_blocks_join_exists (ℓ := (c : Thread nD τ).loc cc0_scratch1) (fun j : Dev nD => (slotM j).view.set) slots_disjoint slots_cover f₀

end Cert.KernelIdealProof

end
-- ==== Proof.KernelIdeal.Steps.lean ====
/-
# One step of the exchange at a time

Each lemma takes a device over one stretch of its program: a barrier unit to one peer, the copy to one peer, the round
that receives one block and adds its product, the wait for one copy to be read out. Offsets enter as equations, so that
one lemma serves all seven peers.
-/
module

public import proofs.«01_k».proof.Proof.KernelIdeal.Data

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The offsets, by which peer they name -/

theorem off1_eq : ∀ (c : Dev nD) (t : Fin 7), k0_off1 c (BitVec.ofNat 32 (1 + t.val)) = ![(up c (1 + t.val)).val] := by decide +kernel
theorem off2_eq : ∀ c : Dev nD, k0_off2 c = ![c.val] := by decide +kernel
theorem off3_eq : ∀ c : Dev nD, k0_off3 c = ![c.val, 0, 0] := by decide +kernel
theorem off4_eq : ∀ (c : Dev nD) (t : Fin 7), k0_off4 c (BitVec.ofNat 32 (1 + t.val)) = ![512 * (up c (1 + t.val)).val, 0] := by decide +kernel
theorem off5_eq : ∀ c : Dev nD, k0_off5 c = ![512 * c.val, 0] := by decide +kernel
theorem off6_eq : ∀ c : Dev nD, k0_off6 c = ![512 * c.val, 0] := by decide +kernel
theorem off7_eq : ∀ (c : Dev nD) (t : Fin 7), k0_off7 c (BitVec.ofNat 32 (1 + t.val)) = ![(dn c (1 + t.val)).val] := by decide +kernel
theorem off8_eq : ∀ (c : Dev nD) (t : Fin 7), k0_off8 c (BitVec.ofNat 32 (1 + t.val)) = ![(dn c (1 + t.val)).val, 0, 0] := by decide +kernel
theorem off9_eq : ∀ (c : Dev nD) (t : Fin 7), k0_off9 c (BitVec.ofNat 32 (1 + t.val)) = ![(dn c (1 + t.val)).val, 0, 0] := by decide +kernel
theorem off10_eq : ∀ (c : Dev nD) (t : Fin 7), k0_off10 c (BitVec.ofNat 32 (1 + t.val)) = ![512 * (dn c (1 + t.val)).val, 0] := by decide +kernel
theorem off11_eq : ∀ (c : Dev nD) (t : Fin 7), k0_off11 c (BitVec.ofNat 32 (1 + t.val)) = ![(up c (1 + t.val)).val, 0, 0] := by decide +kernel

theorem up_ne (c : Dev nD) (t : Fin 7) : up c (1 + t.val) ≠ c := by revert c t; decide
theorem dn_ne (c : Dev nD) (t : Fin 7) : dn c (1 + t.val) ≠ c := by revert c t; decide

/-! ## What a device owes, whatever it waited on before -/

def owing (c : Dev nD) (O : CellTallies nD τ sig Unit) : sProp 𝕄 := iprop(∃ W, owes (c : Thread nD τ) O W)

variable (K : KNames) (c : Dev nD)

omit [FloatOps F] in
theorem OR_succ (k : ℕ) : OR c (k + 1) = OR c k + owR c (up c (7 - k)) := rfl
omit [FloatOps F] in
theorem OB_succ (k : ℕ) : OB c (k + 1) = OB c k + owB c ⟨(7 - k) % 8, Nat.mod_lt _ (by decide)⟩ := rfl

/-! ## The barrier units -/

/-- What is left of slot `j` after the unit to device `j`: the slot itself for the device's own. -/
def left (j : Dev nD) : sProp 𝕄 := if j = c then iprop(∃ f, slotPts c c f) else iprop(emp)

omit [FloatOps F] in
theorem left_own : (bigSep Finset.univ fun j => (left c j : sProp 𝕄)) ⊢ iprop(∃ f, slotPts c c f) := by
  refine (bigSep_elim (Finset.mem_univ c)).trans ?_
  unfold left; rw [if_pos rfl]; exact BI.Entails.refl _

/-- The conditional unit to device `j`, in front of any continuation. -/
theorem step_signal {α : Type} (Kt : α → sProp 𝕄) (k : ℕ) (j : Dev nD) (hj : (⟨(7 - k) % 8, Nat.mod_lt _ (by decide)⟩ : Dev nD) = j)
    {p : Prop} [Decidable p] (hp : p ↔ j ≠ c) (n : p → Dev nD) (hn : ∀ h, n h = j)
    {β : Type} (b : PUnit → Prog (TpuEff nD τ sig (Elt F) Λ₀ .tc) β) (f : β → Prog (TpuEff nD τ sig (Elt F) Λ₀ .tc) α) :
    records m K ⊢ iprop(owing c (OB c (k + 1)) -∗ dutyTok ER (barCell j) 0 c -∗ (∃ f, slotPts c j f)
        -∗ (iprop(owing c (OB c k) ∗ left c j) -∗ wp frame (wpE (defs₀ (F := F)) 𝒱₀ c none) Set.univ (b ⟨⟩ >>= f) Kt)
        -∗ wp frame (wpE (defs₀ (F := F)) 𝒱₀ c none) Set.univ
          ((if h : p then .op (.semSignal ((n h : Dev nD), Proc.tc) barS (1#32).toInt) b else b ⟨⟩) >>= f) Kt) := by
  unfold owing
  iintro #HR ⟨%W, HO⟩ Htok Hs Hk
  by_cases h : p
  · have hne := hp.mp h
    obtain rfl := hn h
    rw [dif_pos h, Prog.bind_op]
    ihave #HI := (inv_at m K (n h, .inl ())) $$ HR
    ihave #HB := (reached_at m K (n h, .inl ())) $$ HR
    ihave #HV := (reached_at m K (c, .inr (.inr (n h)))) $$ HR
    iapply (Rounds.wp_signal 𝒱₀ ER (Rd m) (c : Thread nD τ) none (dst := (n h : Thread nD τ)) (κ := K (n h, .inl ()))
        (d := c) (by rw [duties_bar]; exact Finset.mem_erase.mpr ⟨hne.symm, Finset.mem_univ _⟩) ((amount_bar m (n h) c).trans (by decide)) () (O₀ := OB c (k + 1)) (OB c k)
        (by rw [OB_succ, hj, owB, if_neg hne]; rfl)) $$ [HO Htok Hs]
    · isplitr; · iexact HI
      isplitl [HO]; · iexact HO
      isplitl [Htok]; · iexact Htok
      isplitl [Hs]
      · rw [payload_bar]; unfold barPay
        isplitl [Hs]; · iexact Hs
        iexact HV
      · iexact HB
    iintro HO
    iapply Hk
    isplitl [HO]; · iexists W; iexact HO
    unfold left; rw [if_neg hne]; iempintro
  · have he : j = c := not_not.mp fun hne => h (hp.mpr hne)
    rw [dif_neg h]
    iapply Hk
    isplitl [HO]
    · iexists W
      have : OB c (k + 1) = OB c k := by rw [OB_succ, hj, owB, if_pos he, add_zero]
      rw [this]
      iexact HO
    unfold left; rw [if_pos he, he]; iexact Hs

/-! ## The copies out -/

set_option maxHeartbeats 400000 in
/-- The copy of row block `j` to slot `c` of device `j`. -/
theorem step_send {α : Type} (Kt : α → sProp 𝕄) (k : ℕ) (j : Dev nD) (hj : up c (7 - k) = j) (hne : j ≠ c)
    {offX : Fin 2 → ℕ} (hX : offX = ![512 * j.val, 0]) {inbX}
    {offC : Fin 3 → ℕ} (hC : offC = ![c.val, 0, 0]) {inbC}
    {offS : Fin 1 → ℕ} (hS : offS = ![j.val]) {inbS} {offR : Fin 1 → ℕ} (hR : offR = ![c.val]) {inbR}
    {n : Dev nD} (hn : n = j) {hx hc hsc hsrc hdst hsem}
    (b : PUnit → Prog (TpuEff nD τ sig (Elt F) Λ₀ .tc) α) :
    records m K ⊢ iprop(owing c (OR c (k + 1)) -∗ dutyTok ER (sendCell c j) 0 j -∗ dutyTok ER (recvCell j c) 0 c -∗ rowPts c j (xbF m c)
        -∗ barPay c j -∗ (iprop(owing c (OR c k) ∗ cred (tallyAt (sendCell c j) () N)) -∗ wp frame (wpE (defs₀ (F := F)) 𝒱₀ c none) Set.univ (b ⟨⟩) Kt)
        -∗ wp frame (wpE (defs₀ (F := F)) 𝒱₀ c none) Set.univ
          (.op (.enqueueDma (bM.slice (Rect.unit (s := S4096x512) offX S512x512.size inbX) hx)
            (.remote (Dev.tc n : Thread nD τ) ((kM.slice (Rect.unit (s := S8x512x512) offC S1x512x512.size inbC) hc).squeeze S512x512 squeezes_S1x512x512_S512x512)
              (.dma ((cc0_scratch2.slice (Rect.unit (s := S8) offS S1.size inbS)).squeeze S_ squeezes_S1_S_).sem) hsc)
            (.dma ((cc0_scratch3.slice (Rect.unit (s := S8) offR S1.size inbR)).squeeze S_ squeezes_S1_S_).sem) hsrc hdst hsem) b) Kt) := by
  subst hn hX hC hS hR
  unfold owing barPay rowPts slotPts
  iintro #HR ⟨%W, HO⟩ HtS HtV Hx ⟨⟨%fn, Hs⟩, #HV⟩ Hk
  ihave #HI₁ := (inv_at m K (c, .inr (.inl n))) $$ HR
  ihave #HI₂ := (inv_at m K (n, .inr (.inr c))) $$ HR
  ihave #HB := (reached_at m K (c, .inr (.inl n))) $$ HR
  iapply (Rounds.wp_send_pointsTo 𝒱₀ ER (Rd m) (c : Thread nD τ) none (κ₁ := K (c, .inr (.inl n))) (κ₂ := K (n, .inr (.inr c)))
    (c' := (n : Thread nD τ)) (src := rowM n) (dst := slotM c) (sS := .dma (sendS n)) (sem := .dma (recvS c))
    (r₁ := 0) (r₂ := 0) (d₁ := n) (d₂ := c) (fs := xbF m c) (fd := fn) (q := fullShare)
    (by rw [duties_send m c n hne]; exact Finset.mem_singleton_self _) (by rw [duties_recv m n c hne.symm]; exact Finset.mem_singleton_self _)
    () () N rfl (amount_send m c n n) (amount_recv m n c c) (O₀ := OR c (k + 1)) (OR c k) (by rw [OR_succ, hj, owR]) (W := W)
    (by rw [payload_send]; unfold rowPts; exact BI.Entails.refl _)
    (by rw [payload_recv]; unfold slotPts; exact Entails.of_eq (pointsTo_congr (landed_eq m n c fn))))
    $$ [HO HtS HtV Hx Hs]
  · isplitr; · iexact HI₁
    isplitr; · iexact HI₂
    isplitl [Hx]; · iexact Hx
    isplitl [Hs]; · iexact Hs
    isplitl [HO]; · iexact HO
    isplitl [HtS]; · iexact HtS
    isplitr; · iexact HB
    isplitl [HtV]; · iexact HtV
    iexact HV
  iintro ⟨Hc, HO⟩
  iapply Hk
  isplitl [HO]; · iexists W; iexact HO
  iexact Hc

/-! ## The waits -/

/-- The wait for the copy to `j` to be read out of its source: the row block back, and the semaphore at zero. -/
theorem step_sent {α : Type} (Kt : α → sProp 𝕄) (j : Dev nD) (hne : j ≠ c) {offS : Fin 1 → ℕ} (hS : offS = ![j.val]) {inbS}
    {offX : Fin 2 → ℕ} (hX : offX = ![512 * j.val, 0]) {inbX} {hx} {src : Memref sig .tc .vmem S512x512 .bf16} {h₁ h₂}
    (b : PUnit → Prog (TpuEff nD τ sig (Elt F) Λ₀ .tc) α) :
    records m K ⊢ iprop(owing c 0 -∗ cred (tallyAt (sendCell c j) () N) -∗ atPos ER (sendCell c j) 0 ∅ 0
        -∗ (iprop(owing c 0 ∗ rowPts c j (xbF m c) ∗ semVal (sendCell c j) 0) -∗ wp frame (wpE (defs₀ (F := F)) 𝒱₀ c none) Set.univ (b ⟨⟩) Kt)
        -∗ wp frame (wpE (defs₀ (F := F)) 𝒱₀ c none) Set.univ
          (.op (.waitDma2 ((cc0_scratch2.slice (Rect.unit (s := S8) offS S1.size inbS)).squeeze S_ squeezes_S1_S_).sem src
            (bM.slice (Rect.unit (s := S4096x512) offX S512x512.size inbX) hx) h₁ h₂) b) Kt) := by
  subst hS hX
  unfold owing
  iintro #HR ⟨%W, HO⟩ Hc Hat Hk
  ihave #HI := (inv_at m K (c, .inr (.inl j))) $$ HR
  iapply (Rounds.wp_wait_rest_token 𝒱₀ ER (Rd m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send m c j hne]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hx := (Entails.of_eq (rest_send m c j hne)) $$ Hpay
  imod (Rounds.cell_close ER (Rd m) (Set.mem_univ (K (c, .inr (.inl j)))) (fun h => h) (R := 0 + 1) (duties_later m (sendCell c j))) $$ [Hat] with Hz
  · isplitr; · iexact HI
    iexact Hat
  iapply Hk
  isplitl [HO]; · iexists _; iexact HO
  isplitl [Hx]; · iexact Hx
  iexact Hz

/-- The wait for the copy from `j` to land: slot `j` holding its block, and the semaphore at zero. -/
theorem step_landed {α : Type} (Kt : α → sProp 𝕄) (j : Dev nD) (hne : j ≠ c) {offS : Fin 1 → ℕ} (hS : offS = ![j.val]) {inbS}
    {offK : Fin 3 → ℕ} (hK : offK = ![j.val, 0, 0]) {inbK} {hx} {src : Memref sig .tc .vmem S512x512 .bf16} {h₁ h₂}
    (b : PUnit → Prog (TpuEff nD τ sig (Elt F) Λ₀ .tc) α) :
    records m K ⊢ iprop(owing c 0 -∗ cred (tallyAt (recvCell c j) () N) -∗ atPos ER (recvCell c j) 0 ∅ 0
        -∗ (iprop(owing c 0 ∗ slotPts c j (landF m c) ∗ semVal (recvCell c j) 0) -∗ wp frame (wpE (defs₀ (F := F)) 𝒱₀ c none) Set.univ (b ⟨⟩) Kt)
        -∗ wp frame (wpE (defs₀ (F := F)) 𝒱₀ c none) Set.univ
          (.op (.waitDma2 ((cc0_scratch3.slice (Rect.unit (s := S8) offS S1.size inbS)).squeeze S_ squeezes_S1_S_).sem src
            ((kM.slice (Rect.unit (s := S8x512x512) offK S1x512x512.size inbK) hx).squeeze S512x512 squeezes_S1x512x512_S512x512) h₁ h₂) b) Kt) := by
  subst hS hK
  unfold owing
  iintro #HR ⟨%W, HO⟩ Hc Hat Hk
  ihave #HI := (inv_at m K (c, .inr (.inr j))) $$ HR
  iapply (Rounds.wp_wait_rest_token 𝒱₀ ER (Rd m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv m c j hne])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hx := (Entails.of_eq (rest_recv m c j hne)) $$ Hpay
  imod (Rounds.cell_close ER (Rd m) (Set.mem_univ (K (c, .inr (.inr j)))) (fun h => h) (R := 0 + 1) (duties_later m (recvCell c j))) $$ [Hat] with Hz
  · isplitr; · iexact HI
    iexact Hat
  iapply Hk
  isplitl [HO]; · iexists _; iexact HO
  isplitl [Hx]; · iexact Hx
  iexact Hz

/-! ## The staged buffers, whole -/

def outPts (f : (cc0_stg2_0 : Ref sig .tc).ty.Contents (Elt F)) : sProp 𝕄 := ((c : Thread nD τ).loc cc0_stg2_0) ↦{fullShare} f
def wPts : sProp 𝕄 := ((c : Thread nD τ).loc cc0_stg1_0) ↦{fullShare} (wstg m c)

theorem zero2 : (![0, 0] : Fin 2 → ℕ) = fun _ => 0 := by decide

/-- A load of the whole result buffer. -/
theorem step_load_out {α : Type} (Kt : α → sProp 𝕄) {f : (cc0_stg2_0 : Ref sig .tc).ty.Contents (Elt F)} {inb h}
    (b : Vec F S512x2048 .f32 → Prog (TpuEff nD τ sig (Elt F) Λ₀ .tc) α) :
    outPts c f
      ⊢ iprop((outPts c f -∗ wp frame (wpE (defs₀ (F := F)) 𝒱₀ c none) Set.univ (b f) Kt)
        -∗ wp frame (wpE (defs₀ (F := F)) 𝒱₀ c none) Set.univ
          (.op (.load oM (Rect.unit (s := S512x2048) ![0, 0] S512x2048.size inb).toLoadRect h) b) Kt) := by
  unfold outPts
  iintro Ho Hk
  iapply (wp_load 𝒱₀ (c : Thread nD τ) none Set.univ (m := oM) (Finset.subset_univ _)) $$ Ho
  rw [show oM.view.readAt (Elt F) (Rect.unit (s := S512x2048) ![0, 0] S512x2048.size inb).toLoadRect f = f from
    Memref.readAt_unit_zero (Elt F) cc0_stg2_0 zero2 inb f]
  iexact Hk

/-- A store of the whole result buffer. -/
theorem step_store_out {α : Type} (Kt : α → sProp 𝕄) {f g : (cc0_stg2_0 : Ref sig .tc).ty.Contents (Elt F)} {inb h h'}
    (b : PUnit → Prog (TpuEff nD τ sig (Elt F) Λ₀ .tc) α) :
    outPts c f
      ⊢ iprop((outPts c g -∗ wp frame (wpE (defs₀ (F := F)) 𝒱₀ c none) Set.univ (b ⟨⟩) Kt)
        -∗ wp frame (wpE (defs₀ (F := F)) 𝒱₀ c none) Set.univ
          (.op (.store oM (Rect.unit (s := S512x2048) ![0, 0] S512x2048.size inb) g Finset.univ h h') b) Kt) := by
  unfold outPts
  iintro Ho Hk
  iapply (wp_store 𝒱₀ (c : Thread nD τ) none Set.univ (m := oM) (r := Rect.unit (s := S512x2048) ![0, 0] S512x2048.size inb) (Mk := Finset.univ)
    (Finset.subset_univ _)) $$ Ho
  rw [show (oM.access (Rect.unit (s := S512x2048) ![0, 0] S512x2048.size inb)).write (Elt F) f g Finset.univ = g from
    Memref.write_access_unit_zero_univ (Elt F) cc0_stg2_0 zero2 inb f g]
  iexact Hk

/-- A load of the weights that meet device `j`'s block. -/
theorem step_load_w {α : Type} (Kt : α → sProp 𝕄) (j : Dev nD) {off : Fin 2 → ℕ} (ho : off = ![512 * j.val, 0]) {inb h}
    (b : Vec F S512x2048 .f32 → Prog (TpuEff nD τ sig (Elt F) Λ₀ .tc) α) :
    wPts m c
      ⊢ iprop((wPts m c -∗ wp frame (wpE (defs₀ (F := F)) 𝒱₀ c none) Set.univ (b (wblk m c j)) Kt)
        -∗ wp frame (wpE (defs₀ (F := F)) 𝒱₀ c none) Set.univ
          (.op (.load wM (Rect.unit (s := S4096x2048) off S512x2048.size inb).toLoadRect h) b) Kt) := by
  subst ho
  unfold wPts
  exact wp_load 𝒱₀ (c : Thread nD τ) none Set.univ (m := wM) (Finset.subset_univ _)

/-- A load of the slot that holds device `j`'s block. -/
theorem step_load_slot {α : Type} (Kt : α → sProp 𝕄) (j : Dev nD) {off : Fin 3 → ℕ} (ho : off = ![j.val, 0, 0]) {inb h}
    (b : Vec F S1x512x512 .bf16 → Prog (TpuEff nD τ sig (Elt F) Λ₀ .tc) α) :
    slotPts c j (landF m c)
      ⊢ iprop((slotPts c j (landF m c) -∗ wp frame (wpE (defs₀ (F := F)) 𝒱₀ c none) Set.univ (b (kblk m c j)) Kt)
        -∗ wp frame (wpE (defs₀ (F := F)) 𝒱₀ c none) Set.univ
          (.op (.load kM (Rect.unit (s := S8x512x512) off S1x512x512.size inb).toLoadRect h) b) Kt) := by
  subst ho
  unfold slotPts
  exact wp_load 𝒱₀ (c : Thread nD τ) none Set.univ (m := kM) (r := (slotR j).toLoadRect)
    (by rw [slot_set]; exact le_of_eq (Finset.map_refl))

/-- A load of the device's own row block. -/
theorem step_load_row {α : Type} (Kt : α → sProp 𝕄) {off : Fin 2 → ℕ} (ho : off = ![512 * c.val, 0]) {inb h}
    (b : Vec F S512x512 .bf16 → Prog (TpuEff nD τ sig (Elt F) Λ₀ .tc) α) :
    rowPts c c (xbF m c)
      ⊢ iprop((rowPts c c (xbF m c) -∗ wp frame (wpE (defs₀ (F := F)) 𝒱₀ c none) Set.univ (b (xblk m c)) Kt)
        -∗ wp frame (wpE (defs₀ (F := F)) 𝒱₀ c none) Set.univ
          (.op (.load bM (Rect.unit (s := S4096x512) off S512x512.size inb).toLoadRect h) b) Kt) := by
  subst ho
  unfold rowPts
  exact wp_load 𝒱₀ (c : Thread nD τ) none Set.univ (m := bM) (r := (rowR c).toLoadRect)
    (by rw [row_set]; exact le_of_eq (Finset.map_refl))

/-! ## One received block added -/

/-- The `t`-th round: wait for the block from `t + 1` places before, and add its product to the result. -/
theorem step_round {α : Type} (Kt : α → sProp 𝕄) (t : ℕ) (ht : dn c (t + 1) ≠ c)
    {offS : Fin 1 → ℕ} (hS : offS = ![(dn c (t + 1)).val]) {inbS}
    {offK : Fin 3 → ℕ} (hK : offK = ![(dn c (t + 1)).val, 0, 0]) {inbK}
    {offL : Fin 3 → ℕ} (hL : offL = ![(dn c (t + 1)).val, 0, 0]) {inbL}
    {offW : Fin 2 → ℕ} (hW : offW = ![512 * (dn c (t + 1)).val, 0]) {inbW}
    {hx} {src : Memref sig .tc .vmem S512x512 .bf16} {h₁ h₂ inb₃ inb₆ inb₇ h₃ h₄ h₅ h₆ h₇ h₈}
    (pay : Vec F S512x2048 .f32 → Vec F S1x512x512 .bf16 → Vec F S512x2048 .f32 → Vec F S512x2048 .f32) (hpay : pay = k0_pay3)
    (b : PUnit → Prog (TpuEff nD τ sig (Elt F) Λ₀ .tc) α) :
    records m K ⊢ iprop(owing c 0 -∗ cred (tallyAt (recvCell c (dn c (t + 1))) () N) -∗ atPos ER (recvCell c (dn c (t + 1))) 0 ∅ 0
        -∗ wPts m c -∗ outPts c (acc m c t) -∗ (iprop(owing c 0 ∗ (∃ f, slotPts c (dn c (t + 1)) f) ∗ semVal (recvCell c (dn c (t + 1))) 0
              ∗ wPts m c ∗ outPts c (acc m c (t + 1))) -∗ wp frame (wpE (defs₀ (F := F)) 𝒱₀ c none) Set.univ (b ⟨⟩) Kt)
        -∗ wp frame (wpE (defs₀ (F := F)) 𝒱₀ c none) Set.univ
          (.op (.waitDma2 ((cc0_scratch3.slice (Rect.unit (s := S8) offS S1.size inbS)).squeeze S_ squeezes_S1_S_).sem src
            ((kM.slice (Rect.unit (s := S8x512x512) offK S1x512x512.size inbK) hx).squeeze S512x512 squeezes_S1x512x512_S512x512) h₁ h₂) fun _ =>
          .op (.load oM (Rect.unit (s := S512x2048) ![0, 0] S512x2048.size inb₃).toLoadRect h₃) fun a =>
          .op (.load kM (Rect.unit (s := S8x512x512) offL S1x512x512.size inbL).toLoadRect h₄) fun s =>
          .op (.load wM (Rect.unit (s := S4096x2048) offW S512x2048.size inbW).toLoadRect h₅) fun w =>
          .op (.load oM (Rect.unit (s := S512x2048) ![0, 0] S512x2048.size inb₆).toLoadRect h₆) fun _ =>
          .op (.store oM (Rect.unit (s := S512x2048) ![0, 0] S512x2048.size inb₇) (pay a s w) Finset.univ h₇ h₈) b) Kt) := by
  iintro #HR HO Hc Hat Hw Ho Hk
  iapply (step_landed m K c Kt (dn c (t + 1)) ht hS hK) $$ HR HO Hc Hat
  iintro ⟨HO, Hs, Hz⟩
  iapply (step_load_out c Kt) $$ Ho; iintro Ho
  iapply (step_load_slot m c Kt (dn c (t + 1)) hL) $$ Hs; iintro Hs
  iapply (step_load_w m c Kt (dn c (t + 1)) hW) $$ Hw; iintro Hw
  iapply (step_load_out c Kt) $$ Ho; iintro Ho
  iapply (step_store_out c Kt) $$ Ho; iintro Ho
  iapply Hk
  isplitl [HO]; · iexact HO
  isplitl [Hs]; · iexists _; iexact Hs
  isplitl [Hz]; · iexact Hz
  isplitl [Hw]; · iexact Hw
  subst hpay
  rw [acc]
  iexact Ho

end Cert.KernelIdealProof

end
-- ==== Proof.KernelIdeal.Body.lean ====
/-
# The kernel's body, run at one device

From what a device starts with to what it ends with, in program order: round `x`, seven barrier units out, the barrier
wait, seven copies out, the own product, seven received blocks added, the clamp at zero, seven waits for the copies out.
-/
module

public import proofs.«01_k».proof.Proof.KernelIdeal.Steps
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The peers that the program names -/

theorem cond1_iff : ∀ c : Dev nD, k0_cond1 c = 1#1 ↔ (0 : Dev nD) ≠ c := by decide +kernel
theorem cond2_iff : ∀ c : Dev nD, k0_cond2 c = 1#1 ↔ (1 : Dev nD) ≠ c := by decide +kernel
theorem cond3_iff : ∀ c : Dev nD, k0_cond3 c = 1#1 ↔ (2 : Dev nD) ≠ c := by decide +kernel
theorem cond4_iff : ∀ c : Dev nD, k0_cond4 c = 1#1 ↔ (3 : Dev nD) ≠ c := by decide +kernel
theorem cond5_iff : ∀ c : Dev nD, k0_cond5 c = 1#1 ↔ (4 : Dev nD) ≠ c := by decide +kernel
theorem cond6_iff : ∀ c : Dev nD, k0_cond6 c = 1#1 ↔ (5 : Dev nD) ≠ c := by decide +kernel
theorem cond7_iff : ∀ c : Dev nD, k0_cond7 c = 1#1 ↔ (6 : Dev nD) ≠ c := by decide +kernel
theorem cond8_iff : ∀ c : Dev nD, k0_cond8 c = 1#1 ↔ (7 : Dev nD) ≠ c := by decide +kernel
theorem dev9_eq : ∀ c : Dev nD, k0_dev9 c = (up c 1).val := by decide +kernel
theorem dev10_eq : ∀ c : Dev nD, k0_dev10 c = (up c 2).val := by decide +kernel
theorem dev11_eq : ∀ c : Dev nD, k0_dev11 c = (up c 3).val := by decide +kernel
theorem dev12_eq : ∀ c : Dev nD, k0_dev12 c = (up c 4).val := by decide +kernel
theorem dev13_eq : ∀ c : Dev nD, k0_dev13 c = (up c 5).val := by decide +kernel
theorem dev14_eq : ∀ c : Dev nD, k0_dev14 c = (up c 6).val := by decide +kernel
theorem dev15_eq : ∀ c : Dev nD, k0_dev15 c = (up c 7).val := by decide +kernel

/-- The whole buffer rewritten with the rounded block of what was loaded whole. -/
theorem round_eq (c : Dev nD) (f : (cc0_scratch0 : Ref sig .tc).ty.Contents (Elt F)) {inb inb'} :
    (bM.access (Rect.unit (s := S4096x512) ![0, 0] S4096x512.size inb)).write (Elt F) f
      (k0_pay1 (xM.view.readAt (Elt F) (Rect.unit (s := S4096x512) ![0, 0] S4096x512.size inb').toLoadRect (xstg m c))) Finset.univ = xbF m c := by
  rw [show xM.view.readAt (Elt F) (Rect.unit (s := S4096x512) ![0, 0] S4096x512.size inb').toLoadRect (xstg m c) = xstg m c from
    Memref.readAt_unit_zero (Elt F) cc0_stg0_0 zero2 inb' _]
  exact Memref.write_access_unit_zero_univ (Elt F) cc0_scratch0 zero2 inb f _

/-! ## The body -/

set_option maxHeartbeats 4000000 in
set_option maxRecDepth 4000 in
theorem sound_body (K : KNames) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel
  simp only [semSignalWord, semWaitWord, Prog.lift, Prog.bind_op, Prog.bind_ret, Prog.pure_eq_ret, wp_deviceId]
  unfold bodyPre ghost posns payToks creds bufs
  iintro ⟨⟨⟨⟨#HR, ⟨HatB, HatS, HatV⟩, HtB, HtS, HtV⟩, ⟨HcB, HcV⟩, #Hlev, ⟨%fb, Hb⟩, ⟨%fk, Hs⟩⟩,
    Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  ihave HO := (show (owes (c : Thread nD τ) ((dats m 0 c).owed t0_0.castSucc) W : sProp 𝕄) ⊢ owing c (OB c 8) from by
    unfold owing; iintro H; iexists W; iexact H) $$ HO
  -- the tokens, positions and credits by peer, the receive buffer by slot
  ihave HtB := (Entails.of_eq (all_abs _)) $$ HtB
  ihave HtS := (Entails.of_eq (all_up c _)) $$ HtS
  ihave HtV := (Entails.of_eq (all_up c _)) $$ HtV
  ihave HatS := (Entails.of_eq (all_up c _)) $$ HatS
  ihave HatV := (Entails.of_eq (all_dn c _)) $$ HatV
  ihave HcV := (Entails.of_eq (others_dn c _)) $$ HcV
  ihave Hs := (Entails.of_eq ((slots_split c fk).trans (all_abs _))) $$ Hs
  icases HtB with ⟨HtB0, HtB1, HtB2, HtB3, HtB4, HtB5, HtB6, HtB7⟩
  icases HtS with ⟨HtS0, HtS1, HtS2, HtS3, HtS4, HtS5, HtS6, HtS7⟩
  icases HtV with ⟨HtV0, HtV1, HtV2, HtV3, HtV4, HtV5, HtV6, HtV7⟩
  icases HatS with ⟨HatS0, HatS1, HatS2, HatS3, HatS4, HatS5, HatS6, HatS7⟩
  icases HatV with ⟨HatV0, HatV1, HatV2, HatV3, HatV4, HatV5, HatV6, HatV7⟩
  icases HcV with ⟨HcV1, HcV2, HcV3, HcV4, HcV5, HcV6, HcV7⟩
  icases Hs with ⟨Hs0, Hs1, Hs2, Hs3, Hs4, Hs5, Hs6, Hs7⟩
  -- `x` rounded
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := Rect.unit (s := S4096x512) ![0, 0] S4096x512.size inb_S4096x512_S4096x512_0_0)
    (Mk := Finset.univ) (Finset.subset_univ _)) $$ Hb; iintro Hb
  ihave Hr := (Entails.of_eq ((congrArg (fun f => (((c : Thread nD τ).loc cc0_scratch0) ↦{fullShare} f : sProp 𝕄)) (round_eq m c fb)).trans ((rows_split c (xbF m c)).trans (all_up c _)))) $$ Hb
  icases Hr with ⟨Hr0, Hr1, Hr2, Hr3, Hr4, Hr5, Hr6, Hr7⟩
  -- a barrier unit to every other device
  iapply (step_signal m K c Kt 7 0 rfl (cond1_iff c) _ (fun _ => Fin.ext (show k0_dev1 = 0 from by decide +kernel))) $$ HR HO HtB0 [Hs0]
  · iexists _; iexact Hs0
  iintro ⟨HO, HL0⟩
  iapply (step_signal m K c Kt 6 1 rfl (cond2_iff c) _ (fun _ => Fin.ext (show k0_dev2 = 1 from by decide +kernel))) $$ HR HO HtB1 [Hs1]
  · iexists _; iexact Hs1
  iintro ⟨HO, HL1⟩
  iapply (step_signal m K c Kt 5 2 rfl (cond3_iff c) _ (fun _ => Fin.ext (show k0_dev3 = 2 from by decide +kernel))) $$ HR HO HtB2 [Hs2]
  · iexists _; iexact Hs2
  iintro ⟨HO, HL2⟩
  iapply (step_signal m K c Kt 4 3 rfl (cond4_iff c) _ (fun _ => Fin.ext (show k0_dev4 = 3 from by decide +kernel))) $$ HR HO HtB3 [Hs3]
  · iexists _; iexact Hs3
  iintro ⟨HO, HL3⟩
  iapply (step_signal m K c Kt 3 4 rfl (cond5_iff c) _ (fun _ => Fin.ext (show k0_dev5 = 4 from by decide +kernel))) $$ HR HO HtB4 [Hs4]
  · iexists _; iexact Hs4
  iintro ⟨HO, HL4⟩
  iapply (step_signal m K c Kt 2 5 rfl (cond6_iff c) _ (fun _ => Fin.ext (show k0_dev6 = 5 from by decide +kernel))) $$ HR HO HtB5 [Hs5]
  · iexists _; iexact Hs5
  iintro ⟨HO, HL5⟩
  iapply (step_signal m K c Kt 1 6 rfl (cond7_iff c) _ (fun _ => Fin.ext (show k0_dev7 = 6 from by decide +kernel))) $$ HR HO HtB6 [Hs6]
  · iexists _; iexact Hs6
  iintro ⟨HO, HL6⟩
  simp only [Prog.bind_ret]
  unfold k0_part2_skel
  simp only [semSignalWord, semWaitWord, Prog.lift, Prog.bind_op, Prog.bind_ret, Prog.pure_eq_ret]
  iapply (step_signal m K c Kt 0 7 rfl (cond8_iff c) _ (fun _ => Fin.ext (show k0_dev8 = 7 from by decide +kernel))) $$ HR HO HtB7 [Hs7]
  · iexists _; iexact Hs7
  iintro ⟨HO, HL7⟩
  -- the barrier wait: every other device's slot
  unfold owing
  icases HO with ⟨%W', HO⟩
  ihave #HIB := (inv_at m K (c, .inl ())) $$ HR
  iapply (Rounds.wp_wait_rest_token 𝒱₀ ER (Rd m) (c : Thread nD τ) none (κ := K (c, .inl ()))
      (wpE_semWait_eq 𝒱₀ (c : Thread nD τ) none Set.univ) (Set.mem_univ _) () (O := OR c 7) (W := W') (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave HB := (Entails.of_eq ((rest_bar m c).trans (others_up c _))) $$ Hpay
  icases HB with ⟨HB1, HB2, HB3, HB4, HB5, HB6, HB7⟩
  ihave HO := (show (owes (c : Thread nD τ) (OR c 7) (insert (SemLoc.reg barS, ()) W') : sProp 𝕄) ⊢ owing c (OR c 7) from by
    unfold owing; iintro H; iexists _; iexact H) $$ HO
  -- the seven copies out
  unfold k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret]
  iapply (step_send m K c Kt 6 (up c 1) rfl (up_ne c 0) (off4_eq c 0) (off3_eq c) (off1_eq c 0) (off2_eq c) (Fin.ext (dev9_eq c)))
    $$ HR HO HtS1 HtV1 Hr1 HB1
  iintro ⟨HO, HcS1⟩
  iapply (step_send m K c Kt 5 (up c 2) rfl (up_ne c 1) (off4_eq c 1) (off3_eq c) (off1_eq c 1) (off2_eq c) (Fin.ext (dev10_eq c)))
    $$ HR HO HtS2 HtV2 Hr2 HB2
  iintro ⟨HO, HcS2⟩
  iapply (step_send m K c Kt 4 (up c 3) rfl (up_ne c 2) (off4_eq c 2) (off3_eq c) (off1_eq c 2) (off2_eq c) (Fin.ext (dev11_eq c)))
    $$ HR HO HtS3 HtV3 Hr3 HB3
  iintro ⟨HO, HcS3⟩
  iapply (step_send m K c Kt 3 (up c 4) rfl (up_ne c 3) (off4_eq c 3) (off3_eq c) (off1_eq c 3) (off2_eq c) (Fin.ext (dev12_eq c)))
    $$ HR HO HtS4 HtV4 Hr4 HB4
  iintro ⟨HO, HcS4⟩
  iapply (step_send m K c Kt 2 (up c 5) rfl (up_ne c 4) (off4_eq c 4) (off3_eq c) (off1_eq c 4) (off2_eq c) (Fin.ext (dev13_eq c)))
    $$ HR HO HtS5 HtV5 Hr5 HB5
  iintro ⟨HO, HcS5⟩
  iapply (step_send m K c Kt 1 (up c 6) rfl (up_ne c 5) (off4_eq c 5) (off3_eq c) (off1_eq c 5) (off2_eq c) (Fin.ext (dev14_eq c)))
    $$ HR HO HtS6 HtV6 Hr6 HB6
  iintro ⟨HO, HcS6⟩
  iapply (step_send m K c Kt 0 (up c 7) rfl (up_ne c 6) (off4_eq c 6) (off3_eq c) (off1_eq c 6) (off2_eq c) (Fin.ext (dev15_eq c)))
    $$ HR HO HtS7 HtV7 Hr7 HB7
  iintro ⟨HO, HcS7⟩
  -- the device's own product
  iapply (step_load_row m c Kt (off5_eq c)) $$ Hr0; iintro Hr0
  ihave Hw := (show (((c : Thread nD τ).loc cc0_stg1_0) ↦{fullShare} (wstg m c) : sProp 𝕄) ⊢ wPts m c from by unfold wPts; exact BI.Entails.refl _) $$ Hw
  ihave Hout := (show (((c : Thread nD τ).loc cc0_stg2_0) ↦{fullShare} g2 : sProp 𝕄) ⊢ outPts c g2 from by unfold outPts; exact BI.Entails.refl _) $$ Hout
  iapply (step_load_w m c Kt c (off6_eq c)) $$ Hw; iintro Hw
  iapply (step_load_out c Kt) $$ Hout; iintro Hout
  iapply (step_store_out c Kt) $$ Hout; iintro Hout
  ihave HO := (show (owing c (OR c 0) : sProp 𝕄) ⊢ owing c 0 from BI.Entails.refl _) $$ HO
  ihave Hout := (show (outPts c (k0_pay2 (xblk m c) (wblk m c c)) : sProp 𝕄) ⊢ outPts c (acc m c 0) from BI.Entails.refl _) $$ Hout
  -- the seven received blocks
  iapply (step_round m K c Kt 0 (dn_ne c 0) (off7_eq c 0) (off8_eq c 0) (off9_eq c 0) (off10_eq c 0) _ rfl)
    $$ HR HO HcV1 HatV1 Hw Hout
  iintro ⟨HO, Hs1, HzV1, Hw, Hout⟩
  iapply (step_round m K c Kt 1 (dn_ne c 1) (off7_eq c 1) (off8_eq c 1) (off9_eq c 1) (off10_eq c 1) _ rfl)
    $$ HR HO HcV2 HatV2 Hw Hout
  iintro ⟨HO, Hs2, HzV2, Hw, Hout⟩
  iapply (step_round m K c Kt 2 (dn_ne c 2) (off7_eq c 2) (off8_eq c 2) (off9_eq c 2) (off10_eq c 2) _ rfl)
    $$ HR HO HcV3 HatV3 Hw Hout
  iintro ⟨HO, Hs3, HzV3, Hw, Hout⟩
  iapply (step_round m K c Kt 3 (dn_ne c 3) (off7_eq c 3) (off8_eq c 3) (off9_eq c 3) (off10_eq c 3) _ rfl)
    $$ HR HO HcV4 HatV4 Hw Hout
  iintro ⟨HO, Hs4, HzV4, Hw, Hout⟩
  iapply (step_round m K c Kt 4 (dn_ne c 4) (off7_eq c 4) (off8_eq c 4) (off9_eq c 4) (off10_eq c 4) _ rfl)
    $$ HR HO HcV5 HatV5 Hw Hout
  iintro ⟨HO, Hs5, HzV5, Hw, Hout⟩
  iapply (step_round m K c Kt 5 (dn_ne c 5) (off7_eq c 5) (off8_eq c 5) (off9_eq c 5) (off10_eq c 5) _ rfl)
    $$ HR HO HcV6 HatV6 Hw Hout
  iintro ⟨HO, Hs6, HzV6, Hw, Hout⟩
  iapply (step_round m K c Kt 6 (dn_ne c 6) (off7_eq c 6) (off8_eq c 6) (off9_eq c 6) (off10_eq c 6) _ rfl)
    $$ HR HO HcV7 HatV7 Hw Hout
  iintro ⟨HO, Hs7, HzV7, Hw, Hout⟩
  -- the clamp at zero
  iapply (step_load_out c Kt) $$ Hout; iintro Hout
  iapply (step_load_out c Kt) $$ Hout; iintro Hout
  iapply (step_store_out c Kt) $$ Hout; iintro Hout
  -- the waits for the copies out
  iapply (step_sent m K c Kt (up c 1) (up_ne c 0) (off1_eq c 0) (off4_eq c 0)) $$ HR HO HcS1 HatS1
  iintro ⟨HO, Hr1, HzS1⟩
  iapply (step_sent m K c Kt (up c 2) (up_ne c 1) (off1_eq c 1) (off4_eq c 1)) $$ HR HO HcS2 HatS2
  iintro ⟨HO, Hr2, HzS2⟩
  iapply (step_sent m K c Kt (up c 3) (up_ne c 2) (off1_eq c 2) (off4_eq c 2)) $$ HR HO HcS3 HatS3
  iintro ⟨HO, Hr3, HzS3⟩
  iapply (step_sent m K c Kt (up c 4) (up_ne c 3) (off1_eq c 3) (off4_eq c 3)) $$ HR HO HcS4 HatS4
  iintro ⟨HO, Hr4, HzS4⟩
  iapply (step_sent m K c Kt (up c 5) (up_ne c 4) (off1_eq c 4) (off4_eq c 4)) $$ HR HO HcS5 HatS5
  iintro ⟨HO, Hr5, HzS5⟩
  iapply (step_sent m K c Kt (up c 6) (up_ne c 5) (off1_eq c 5) (off4_eq c 5)) $$ HR HO HcS6 HatS6
  iintro ⟨HO, Hr6, HzS6⟩
  iapply (step_sent m K c Kt (up c 7) (up_ne c 6) (off1_eq c 6) (off4_eq c 6)) $$ HR HO HcS7 HatS7
  iintro ⟨HO, Hr7, HzS7⟩
  -- the cells that carried nothing, and the barrier cell, close
  ihave #HIS := (inv_at m K (c, .inr (.inl c))) $$ HR
  ihave #HIV := (inv_at m K (c, .inr (.inr c))) $$ HR
  imod (Rounds.cell_close ER (Rd m) (Set.mem_univ (K (c, .inr (.inl c)))) (fun h => h) (R := 0) (duties_send_self m c)) $$ [HatS0] with HzS0
  · isplitr; · iexact HIS
    iexact HatS0
  imod (Rounds.cell_close ER (Rd m) (Set.mem_univ (K (c, .inr (.inr c)))) (fun h => h) (R := 0) (duties_recv_self m c)) $$ [HatV0] with HzV0
  · isplitr; · iexact HIV
    iexact HatV0
  imod (Rounds.cell_close ER (Rd m) (Set.mem_univ (K (c, .inl ()))) (fun h => h) (R := 0 + 1) (duties_later m (barCell c))) $$ [HatB] with HzB
  · isplitr; · iexact HIB
    iexact HatB
  rw [wp_ret]; imodintro
  iapply Hk
  ihave Hs0 := (show iprop(left c 0 ∗ left c 1 ∗ left c 2 ∗ left c 3 ∗ left c 4 ∗ left c 5 ∗ left c 6 ∗ left c 7) ⊢ (iprop(∃ f, slotPts c c f) : sProp 𝕄) from
    (Entails.of_eq (all_abs _).symm).trans (left_own c)) $$ [HL0 HL1 HL2 HL3 HL4 HL5 HL6 HL7]
  · iframe HL0 HL1 HL2 HL3 HL4 HL5 HL6 HL7
  unfold bodyPost Φ₁ bufs Dat.owesAt Pipeline.owesWithin owing wPts outPts
  rw [show (dats m 0 c).owed t0_0.succ = 0 from rfl]
  icases HO with ⟨%W'', HO⟩
  isplitl [Hr0 Hr1 Hr2 Hr3 Hr4 Hr5 Hr6 Hr7 Hs0 Hs1 Hs2 Hs3 Hs4 Hs5 Hs6 Hs7 HzS0 HzS1 HzS2 HzS3 HzS4 HzS5 HzS6 HzS7 HzV0 HzV1 HzV2 HzV3 HzV4 HzV5 HzV6 HzV7 HzB]
  · isplitl [Hr0 Hr1 Hr2 Hr3 Hr4 Hr5 Hr6 Hr7 Hs0 Hs1 Hs2 Hs3 Hs4 Hs5 Hs6 Hs7]
    · isplitl [Hr0 Hr1 Hr2 Hr3 Hr4 Hr5 Hr6 Hr7]
      · iexists (xbF m c)
        rw [rows_split, all_up c]
        iframe Hr0 Hr1 Hr2 Hr3 Hr4 Hr5 Hr6 Hr7
      · iapply (slots_join c (landF m c))
        rw [all_dn c]
        iframe Hs0 Hs1 Hs2 Hs3 Hs4 Hs5 Hs6 Hs7
    isplitl [HzS0 HzS1 HzS2 HzS3 HzS4 HzS5 HzS6 HzS7]
    · rw [all_up c]; iframe HzS0 HzS1 HzS2 HzS3 HzS4 HzS5 HzS6 HzS7
    isplitl [HzV0 HzV1 HzV2 HzV3 HzV4 HzV5 HzV6 HzV7]
    · rw [all_dn c]; iframe HzV0 HzV1 HzV2 HzV3 HzV4 HzV5 HzV6 HzV7
    iexact HzB
  isplitl [HO]
  · iexists W''
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

end Cert.KernelIdealProof

end
-- ==== Proof.KernelIdeal.Run.lean ====
/-
# The run on all eight devices

The body's obligation to the pipeline, the exchange's ghost state made at launch and dealt out, what each device is owed
then, and the run: it ends, and leaves the result, the arguments and every counter as said.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body, as the pipeline asks for it -/

/-- What the pipeline hands a device for the one point. -/
def pointPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 4000 in
theorem body_obligation (c : Dev nD) : BodyObligation (dats (F := F) m 0 c) (defs₀ (F := F)) 𝒱₀ () Set.univ := fun t => by
  rw [fin_N0 t, bigSep_W0, bigSep_W0]
  simp only [owns_whole_eq]
  show pointPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) cc0_scratch2 cc0_scratch3) (fun _ => bodyPost m c)
  unfold pointPre Φ₀ start
  iintro ⟨⟨⟨⟨%K, Hg⟩, Hc, Hl⟩, Hb⟩, Ho, Hx, Hw, Hout⟩
  iapply (sound_body m K c fun _ => bodyPost m c)
  unfold bodyPre
  isplitr []
  · iframe Hg Hc Hl Hb Ho Hx Hw Hout
  · iintro H; iexact H

/-! ## The cells and tokens made at launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by
  rintro (u | i | i) (u' | j | j) h
  · rfl
  · exact absurd h.symm (send_ne_bar j)
  · exact absurd h.symm (recv_ne_bar j)
  · exact absurd h (send_ne_bar i)
  · exact congrArg (fun j => Sum.inr (Sum.inl j)) (sendS_inj h)
  · exact absurd h (send_ne_recv i j)
  · exact absurd h (recv_ne_bar i)
  · exact absurd h.symm (send_ne_recv j i)
  · exact congrArg (fun j => Sum.inr (Sum.inr j)) (recvS_inj h)

theorem kcell_injective : Function.Injective (kcell : Dev nD × CIx → GSem nD τ sig) := by
  rintro ⟨c, k⟩ ⟨c', k'⟩ h
  exact Prod.ext (show c = c' from congrArg (fun g : GSem nD τ sig => g.1.1) h) (csem_injective (congrArg Prod.snd h))

def xCells : Finset (GSem nD τ sig) := Finset.univ.map ⟨kcell, kcell_injective⟩

/-- A device's cells' tokens: at its barrier one for every device, at the cells for peer `j` one for `j`. -/
abbrev tokOf (ct : Dev nD × (Dev nD ⊕ (Dev nD ⊕ Dev nD))) : GSem nD τ sig × ℕ × Dev nD :=
  match ct.2 with
  | .inl d => (barCell ct.1, 0, d)
  | .inr (.inl j) => (sendCell ct.1 j, 0, j)
  | .inr (.inr j) => (recvCell ct.1 j, 0, j)

theorem tokOf_injective : Function.Injective tokOf := by
  rintro ⟨c, t⟩ ⟨c', t'⟩ h
  have hc : c = c' := by
    rcases t with d | j | j <;> rcases t' with d' | j' | j' <;> exact congrArg (fun x : GSem nD τ sig × ℕ × Dev nD => x.1.1.1) h
  have hs := congrArg (fun x : GSem nD τ sig × ℕ × Dev nD => x.1.2) h
  have hd := congrArg (fun x : GSem nD τ sig × ℕ × Dev nD => x.2.2) h
  refine Prod.ext hc ?_
  rcases t with d | j | j <;> rcases t' with d' | j' | j'
  · exact congrArg Sum.inl hd
  · exact absurd hs.symm (send_ne_bar j')
  · exact absurd hs.symm (recv_ne_bar j')
  · exact absurd hs (send_ne_bar j)
  · exact congrArg (fun j => Sum.inr (Sum.inl j)) hd
  · exact absurd hs (send_ne_recv j j')
  · exact absurd hs (recv_ne_bar j)
  · exact absurd hs.symm (send_ne_recv j' j)
  · exact congrArg (fun j => Sum.inr (Sum.inr j)) hd

def xToks : Finset (GSem nD τ sig × ℕ × Dev nD) := Finset.univ.map ⟨tokOf, tokOf_injective⟩

def u₀ : UU :=
  (initOf (Pipeline.cells cfgs cellOf_inj) (Pipeline.launchToks cfgs cellOf_inj), initOf xCells xToks)

/-- The tokens at device `c`'s own cells. -/
def ownToks (c : Dev nD) : sProp 𝕄 :=
  iprop((bigSep Finset.univ fun d => dutyTok ER (barCell c) 0 d)
    ∗ (bigSep Finset.univ fun j => dutyTok ER (sendCell c j) 0 j)
    ∗ bigSep Finset.univ fun j => dutyTok ER (recvCell c j) 0 j)

/-- Positions and marks of device `c`'s own cells. -/
def ownPos (c : Dev nD) : sProp 𝕄 :=
  iprop((bigSep Finset.univ fun k : CIx => atPos ER (kcell (c, k)) 0 ∅ 0) ∗ bigSep Finset.univ fun k : CIx => reached ER (kcell (c, k)) 0)

/-- A device's part of what the launch makes, and of what the first step of all devices together makes of it. -/
def G (c : Dev nD) : sProp 𝕄 :=
  iprop((bigSep Finset.univ fun k : CIx => roundState ER (Rd m) (kcell (c, k)) 0) ∗ ownPos c ∗ ownToks c)
def G' (c : Dev nD) : sProp 𝕄 := iprop(∃ K, ghost m K c)

omit [FloatOps F] in
/-- A family over a device's cells, by kind. -/
theorem bigSep_cells (Φ : CIx → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum (fun b => Φ (.inr b))]
  rw [bigSep_univ_eq_bigSepL [()] (by decide) (by decide) (fun a => Φ (.inl a))]
  rfl

theorem fund_exchange : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : CIx => Φ (kcell (c, k)) := by
    unfold xCells; rw [bigSep_map, bigSep_univ_prod]; rfl
  have hT : bigSep xToks (fun x => (dutyTok ER x.1 x.2.1 x.2.2 : sProp 𝕄)) = bigSep Finset.univ fun c : Dev nD => ownToks c := by
    unfold xToks; rw [bigSep_map, bigSep_univ_prod]
    exact bigSep_congr fun c _ => by unfold ownToks; rw [bigSep_univ_sum, bigSep_univ_sum]; rfl
  iintro HX
  imod (Rounds.fund ER (Rd m) xCells xToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ownPos; simp only [bigSep_sep']
  iframe Hst Hat Hr Htok

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cells]
  iintro ⟨⟨HS, HV⟩, HB⟩
  iframe HB HS HV

/-- On one device: its counters at zero and its cells' round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k)))) ∗ ownPos c ∗ ownToks c) := by
  unfold G
  iintro ⟨Hos, Hus, Hst, Hat, Htok⟩
  ihave Hv := (sems0 (F := F) c) $$ [Hos Hus]
  · iframe Hos Hus
  imod (show iprop((bigSep Finset.univ fun k : CIx => semVal (kcell (c, k)) 0) ∗ bigSep Finset.univ fun k : CIx => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe Hv Hst
  imodintro
  iframe Hinv Hat Htok

omit [FloatOps F] in
/-- The tokens by who pays: a barrier's go to the devices they name, a receive cell's to the device that sends to it. -/
theorem toks_to_payers : (bigSep Finset.univ fun c : Dev nD => (ownToks c : sProp 𝕄)) ⊢ bigSep Finset.univ fun c : Dev nD => payToks c := by
  unfold ownToks payToks
  simp only [bigSep_sep']
  rw [bigSep_univ_comm (fun c d : Dev nD => (dutyTok ER (barCell c) 0 d : sProp 𝕄)),
    bigSep_univ_comm (fun c j : Dev nD => (dutyTok ER (recvCell c j) 0 j : sProp 𝕄))]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem regroup :
    (bigSep Finset.univ fun c : Dev nD => iprop((bigSep Finset.univ fun k => iprop(∃ κ : ℕ, cellInv ER (Rd m) κ (kcell (c, k)))) ∗ ownPos c ∗ ownToks c) : sProp 𝕄)
      ⊢ bigSep Finset.univ (G' m) := by
  unfold ownPos
  simp only [bigSep_sep']
  rw [← bigSep_univ_prod (fun ck : Dev nD × CIx => iprop(∃ κ : ℕ, cellInv ER (Rd m) κ (kcell ck))),
    ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htok := (toks_to_payers (F := F)) $$ Htok
  iapply (with_persistent (R := records m K) (Φ := fun c => iprop((bigSep Finset.univ fun k : CIx => atPos ER (kcell (c, k)) 0 ∅ 0) ∗ payToks c))
    (fun c _ => show _ ⊢ G' m c from by
      unfold G' ghost posns
      rw [bigSep_cells]
      iintro ⟨#HR, Hat, Htok⟩
      iexists K
      iframe HR Hat Htok))
  isplitr
  · unfold records; isplitl; · iexact HI
    iexact HR
  · rw [bigSep_sep']
    iframe Hat Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What each device is owed at launch -/

/-- What `d` owes is a copy's units to each peer and a barrier unit to each device but itself. -/
theorem owed_apply (d : Dev nD) (g : GSem nD τ sig) :
    O₀ d g () = (∑ j ∈ Finset.univ.erase d, owR d j g ()) + ∑ j, owB d j g () := by
  rw [erase_up d, List.sum_toFinset _ (List.nodup_cons.mp (nodup_up d)).2,
    show (Finset.univ : Finset (Dev nD)) = [7, 6, 5, 4, 3, 2, 1, 0].toFinset from by decide, List.sum_toFinset _ (by decide)]
  simp only [List.map_cons, List.map_nil, List.sum_cons, List.sum_nil, O₀, OB, OR, Pi.add_apply, Finsupp.add_apply, Pi.zero_apply, Finsupp.zero_apply]
  rw [show (⟨(7 - 0) % 8, Nat.mod_lt _ (by decide)⟩ : Dev nD) = 7 from rfl, show (⟨(7 - 1) % 8, Nat.mod_lt _ (by decide)⟩ : Dev nD) = 6 from rfl,
    show (⟨(7 - 2) % 8, Nat.mod_lt _ (by decide)⟩ : Dev nD) = 5 from rfl, show (⟨(7 - 3) % 8, Nat.mod_lt _ (by decide)⟩ : Dev nD) = 4 from rfl,
    show (⟨(7 - 4) % 8, Nat.mod_lt _ (by decide)⟩ : Dev nD) = 3 from rfl, show (⟨(7 - 5) % 8, Nat.mod_lt _ (by decide)⟩ : Dev nD) = 2 from rfl,
    show (⟨(7 - 6) % 8, Nat.mod_lt _ (by decide)⟩ : Dev nD) = 1 from rfl, show (⟨(7 - 7) % 8, Nat.mod_lt _ (by decide)⟩ : Dev nD) = 0 from rfl]
  simp only [Nat.reduceSub]
  omega

theorem barCell_inj {a b : Dev nD} (h : barCell a = barCell b) : a = b := congrArg (fun g : GSem nD τ sig => g.1.1) h

theorem owed_bar (d c : Dev nD) : O₀ d (barCell c) () = if d ∈ Finset.univ.erase c then 1 else 0 := by
  rw [owed_apply, Finset.sum_eq_zero fun j _ => by
      rw [owR, tallyAt_ne_cell fun h => recv_ne_bar d (congrArg Prod.snd h).symm]; rfl,
    Nat.zero_add, Finset.sum_eq_single_of_mem c (Finset.mem_univ c) fun j _ hj => by
      unfold owB; split
      · rfl
      · rw [tallyAt_ne_cell fun h => hj (barCell_inj h).symm]; rfl]
  unfold owB
  by_cases h : d = c
  · subst h; simp
  · rw [if_neg (Ne.symm h), if_pos (Finset.mem_erase.mpr ⟨h, Finset.mem_univ _⟩), tallyAt_apply, if_pos ⟨rfl, rfl⟩]

theorem owed_recv (d c j : Dev nD) (hj : j ≠ c) : O₀ d (recvCell c j) () = if d = j then N else 0 := by
  rw [owed_apply, Finset.sum_eq_zero (s := Finset.univ) fun i _ => by
      unfold owB; split
      · rfl
      · rw [tallyAt_ne_cell fun h => recv_ne_bar j (congrArg Prod.snd h)]; rfl, Nat.add_zero]
  split
  · next h =>
    subst h
    rw [Finset.sum_eq_single_of_mem c (Finset.mem_erase.mpr ⟨hj.symm, Finset.mem_univ _⟩) fun i _ hi => by
      rw [owR, tallyAt_ne_cell fun h => hi (congrArg (fun g : GSem nD τ sig => g.1.1) h).symm]; rfl]
    rw [owR, tallyAt_apply, if_pos ⟨rfl, rfl⟩]
  · next h =>
    exact Finset.sum_eq_zero fun i _ => by
      rw [owR, tallyAt_ne_cell fun e => h (recvS_inj (congrArg Prod.snd e)).symm]; rfl

theorem credit_bar (c : Dev nD) :
    tallyOn (barCell c) (launchCredit (Pipeline.owing O₀) 0 (barCell c)) = (tallyAt (barCell c) () 7 : CellTallies nD τ sig Unit) := by
  refine congrArg (tallyOn (barCell c)) (Finsupp.ext fun _ => ?_)
  rw [Pipeline.launchCredit_owing, Finsupp.single_eq_same, Finset.sum_congr rfl fun d _ => owed_bar d c, Finset.sum_boole]
  revert c; decide

theorem credit_recv (c j : Dev nD) (hj : j ≠ c) :
    tallyOn (recvCell c j) (launchCredit (Pipeline.owing O₀) 0 (recvCell c j)) = (tallyAt (recvCell c j) () N : CellTallies nD τ sig Unit) := by
  refine congrArg (tallyOn (recvCell c j)) (Finsupp.ext fun _ => ?_)
  rw [Pipeline.launchCredit_owing, Finsupp.single_eq_same, Finset.sum_congr rfl fun d _ => owed_recv d c j hj, Finset.sum_ite_eq' Finset.univ j fun _ => N,
    if_pos (Finset.mem_univ _)]

omit [FloatOps F] in
theorem creds_intro (c : Dev nD) : (Pipeline.launchCred O₀ c : sProp 𝕄) ⊢ creds c := by
  unfold Pipeline.launchCred creds
  rw [bigSep_univ_at _ (SemLoc.reg barS), show tallyOn ((c.tc : Thread nD τ), SemLoc.reg barS) _ = _ from credit_bar c]
  refine sep_mono_right ((bigSep_subset (t := (Finset.univ.erase c).map ⟨fun j => SemLoc.dma (recvS j), fun _ _ h => recvS_inj h⟩) fun sm hsm => ?_).trans ?_)
  · obtain ⟨j, _, rfl⟩ := Finset.mem_map.mp hsm
    exact Finset.mem_erase.mpr ⟨recv_ne_bar j, Finset.mem_univ _⟩
  · rw [bigSep_map]
    exact bigSep_mono fun j hj => Entails.of_eq (congrArg cred (credit_recv c j (Finset.ne_of_mem_erase hj)))

/-! ## The launch's conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hl, Hc, -, HG⟩
  ihave Hc := (creds_intro (F := F) c) $$ Hc
  imodintro
  unfold start G'
  iframe HG Hc Hl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  rw [scopedRest0_eq]; unfold Φ₀ bufs
  iintro ⟨Hs, -, Hb⟩
  iframe Hs Hb

theorem phi1_exit (c : Dev nD) :
    (dats m 0 c).Φ (Fin.last cfg0.N) ⊢ iprop(unscopedSems0 c ∗ Pipeline.ownSems0 osem c ∗ Pipeline.scopedRest cfg0.spec c) := by
  show (Φ₁ c : sProp 𝕄) ⊢ _
  rw [scopedRest0_eq, ownSems0_eq, unscopedSems0_eq]; unfold Φ₁ bufs
  iintro ⟨Hb, HS, HV, HB⟩
  iframe HB HS HV Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (match t with
      | ⟨0, _⟩ => Or.inl rfl
      | ⟨_ + 1, _⟩ => Or.inr rfl)

/-! ## The run -/

variable (ρ : Dev nD → PrngReg)

def s₀ : MemSt nD τ sig (Elt F) := ⟨m, fun _ => 0, ρ⟩

/-- A window's array on device `c` after the run. -/
def finalA (c : Dev nD) (w : Fin cfg0.W) : Buf (Elt F) ((cfg0.win w).arr.view.loc (c : Thread nD τ)) := (dats m 0 c).arrAt w cfg0.N

def AllFinal (s : MemSt nD τ sig (Elt F)) : Prop :=
  ∀ c : Dev nD, ∀ w : Fin cfg0.W, s.mem ((cfg0.win w).arr.view.loc (c : Thread nD τ)) = finalA m c w

set_option maxRecDepth 8000 in
/-- For any float values, from any memory with every counter at zero: every weakly fair run of the eight devices ends,
    with every array as computed and every counter at zero. -/
theorem run_main : θ_run defs (onTc (τ := τ) (main (F := F))) (s₀ m ρ) (fun r => AllFinal m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      iframe HP HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HI⟩
      iapply (Pipeline.unscopedSems0_read (X := unscopedSems0 c) (c := c) fupd_intro s')
      iframe Hu HI)
    (hQ := fun _ h hs => ⟨fun c w => (h c).1 w, sem_eq_zero hs fun c => (h c).2.2⟩)

/-- The two arguments are as they were. -/
theorem finalA_x (c : Dev nD) : finalA m c (0 : Fin 3) = m ((c : Thread nD τ).loc main_arg0) :=
  (dats m 0 c).arrAt_in (0 : Fin 3) rfl _
theorem finalA_w (c : Dev nD) : finalA m c (1 : Fin 3) = m ((c : Thread nD τ).loc main_arg1) :=
  (dats m 0 c).arrAt_in (1 : Fin 3) rfl _

end Cert.KernelIdealProof

end
-- ==== Proof.KernelIdeal.Value.lean ====
/-
# The result as a product

At the ideal values: the blocks that travel are row blocks of the columns of `x`, a device's eight products add up to
its row block of `x · w`, and the result of all devices is the reference's.
-/
module

public import proofs.«01_k».proof.Proof.KernelIdeal.Run
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelIdealProof

open Cert.KernelIdeal Cert.KernelIdeal.Gen
open Idealize.ShloMosaic Idealize.ShloMosaic.TcCoe Idealize.ShloMosaic.ValueIdx
open Idealize.ShloMosaic.Pipeline (Dat)
open Idealize.SL.Sem
open scoped BigOperators

/-! ## Blocks, whatever the float values -/

section
variable {F : FTy → Type} [FloatOps F]
variable (m : (ℓ : Loc nD τ sig) → Buf (Elt F) ℓ)

/-- Row block `c` of the rounded block of `j`: what `j` sends to `c`. -/
def sentBlk (c j : Dev nD) : Vec F S512x512 .bf16 := (rowM c).view.read (Elt F) (xbF m j)

theorem slot_emb0 (j : Dev nD) (y : S512x512.Idx) : (slotM j).view.emb y (0 : Fin 3) = j := by
  have h := Rect.mem_set_unit.mp ((slot_set j) ▸ (View.emb_mem_set (slotM j).view y)) (0 : Fin 3)
  have h1 : j.val ≤ ((slotM j).view.emb y (0 : Fin 3)).val ∧ ((slotM j).view.emb y (0 : Fin 3)).val < j.val + 1 := h
  exact Fin.ext (by omega)

/-- A landed slot, its leading axis of one dropped, is what was sent. -/
theorem kblk_cast (c j : Dev nD) (h : S1x512x512.ShapeCasts S512x512) : shapeCast S512x512 (kblk m c j) h = sentBlk m c j := by
  funext y
  show landF m c ((slotM j).view.emb y) = _
  rw [← landed_eq m c j (fun _ => (FloatOps.ofBits .bf16 0#16 : F .bf16)) _ (View.emb_mem_set (slotM j).view y),
    View.write_emb_of_mem (h := Finset.mem_univ y)]
  rfl

theorem xblk_sent (c : Dev nD) : xblk m c = sentBlk m c c := rfl

/-- Each window is its whole array. -/
theorem emb_x (y : S4096x512.Idx) : (win0_0.blk (0 : Fin 1)).view.emb y = y :=
  funext fun a => Fin.ext (Pipeline.Window.rect_emb_val_of_index_zero win0_0 (0 : Fin 1) a rfl y)
theorem emb_w (y : S4096x2048.Idx) : (win0_1.blk (0 : Fin 1)).view.emb y = y :=
  funext fun a => Fin.ext (Pipeline.Window.rect_emb_val_of_index_zero win0_1 (0 : Fin 1) a rfl y)
theorem emb_out (y : S512x2048.Idx) : (win0_2.blk (0 : Fin 1)).view.emb y = y :=
  funext fun a => Fin.ext (Pipeline.Window.rect_emb_val_of_index_zero win0_2 (0 : Fin 1) a rfl y)

theorem xstg_eq (c : Dev nD) : xstg m c = m ((c : Thread nD τ).loc main_arg0) :=
  funext fun y => congrArg (m ((c : Thread nD τ).loc main_arg0)) (emb_x y)
theorem wstg_eq (c : Dev nD) : wstg m c = m ((c : Thread nD τ).loc main_arg1) :=
  funext fun y => congrArg (m ((c : Thread nD τ).loc main_arg1)) (emb_w y)

/-- The result array of a device after the run. -/
theorem finalA_out (c : Dev nD) : finalA m c (2 : Fin 3) = outAt m c :=
  (dats m 0 c).arrAt_eq_of_cover (2 : Fin 3) (outAt m c)
    (fun t _ => by rw [fin_N0 t]; exact funext fun y => (congrArg (outAt m c) (emb_out y)).symm)
    (fun i => ⟨t0_0, by decide, by
      have h := View.emb_mem_set (win0_2.blk (0 : Fin 1)).view i
      rw [emb_out i] at h; exact h⟩)
end

/-! ## At the ideal values -/

variable (m : (ℓ : Loc nD τ sig) → Buf (Elt Ideal) ℓ)

/-- Device `j`'s columns of `x`, and `c`'s copy of `w`. -/
def xOf (j : Dev nD) : FVec Ideal S4096x512 .f32 := m ((j : Thread nD τ).loc main_arg0)
def wOf (c : Dev nD) : FVec Ideal S4096x2048 .f32 := m ((c : Thread nD τ).loc main_arg1)

/-- Row `a` of the block `j` of 512 rows among 4096. -/
def at512 (j : Fin 8) (a : Fin 512) : Fin 4096 := ⟨512 * j.val + a.val, by omega⟩

theorem sentBlk_apply (c j : Dev nD) (a k : Fin 512) : sentBlk m c j (ix2 a k) = xOf m j (ix2 (at512 c a) k) := by
  show k0_pay1 (xstg m j) ((rowR c).emb (ix2 a k)) = _
  unfold k0_pay1
  rw [shapeCast_self, shapeCast_self, xstg_eq]
  refine congrArg (xOf m j) (funext fun i => Fin.ext ?_)
  match i with
  | ⟨0, _⟩ => show 512 * c.val + 1 * a.val = 512 * c.val + a.val; omega
  | ⟨1, _⟩ => show 0 + 1 * k.val = k.val; omega

theorem wblk_apply (c j : Dev nD) (k : Fin 512) (b : Fin 2048) : wblk m c j (ix2 k b) = wOf m c (ix2 (at512 j k) b) := by
  show wstg m c ((wrowR j).emb (ix2 k b)) = _
  rw [wstg_eq]
  refine congrArg (wOf m c) (funext fun i => Fin.ext ?_)
  match i with
  | ⟨0, _⟩ => show 512 * j.val + 1 * k.val = 512 * j.val + k.val; omega
  | ⟨1, _⟩ => show 0 + 1 * b.val = b.val; omega

/-- Block `j`'s part of an entry of the product. -/
def part (c : Dev nD) (a : Fin 512) (b : Fin 2048) (j : Dev nD) : EReal :=
  ∑ k : Fin 512, xOf m j (ix2 (at512 c a) k) * wOf m c (ix2 (at512 j k) b)

theorem dims_plain : dot_S512x512_S512x2048_S512x2048_1_0_0_1_n_n = DotDims.plain 512 512 2048 := rfl

/-- What is in the result's block after `t` further products. -/
def accV (c : Dev nD) (t : ℕ) : FVec Ideal S512x2048 .f32 := acc m c t

/-- A product of what `j` sent with the weights' rows `j`. -/
theorem product_apply (c j : Dev nD) (a : Fin 512) (b : Fin 2048) :
    matmul (φ₂ := .f32) dot_S512x512_S512x2048_S512x2048_1_0_0_1_n_n none (sentBlk m c j) (wblk m c j) (constant S512x2048 .f32 0x00000000#32) (ix2 a b)
      = part m c a b j := by
  rw [dims_plain]
  refine (Ideal.matmul_plain_apply none _ _ _ a b).trans ?_
  rw [show (constant S512x2048 .f32 0x00000000#32 : FVec Ideal S512x2048 .f32) (ix2 a b) = 0 from Ideal.ofBits_zero_f32, zero_add]
  exact Finset.sum_congr rfl fun k _ => by rw [sentBlk_apply, wblk_apply]

theorem acc_zero (c : Dev nD) (a : Fin 512) (b : Fin 2048) : accV m c 0 (ix2 a b) = part m c a b c := by
  show k0_pay2 (xblk m c) (wblk m c c) (ix2 a b) = _
  unfold k0_pay2
  rw [shapeCast_self, xblk_sent]
  exact product_apply m c c a b

theorem acc_succ (c : Dev nD) (t : ℕ) (a : Fin 512) (b : Fin 2048) :
    accV m c (t + 1) (ix2 a b) = accV m c t (ix2 a b) + part m c a b (dn c (t + 1)) := by
  show k0_pay3 (acc m c t) (kblk m c (dn c (t + 1))) (wblk m c (dn c (t + 1))) (ix2 a b) = _
  unfold k0_pay3
  rw [shapeCast_self, shapeCast_self, kblk_cast]
  exact congrArg (accV m c t (ix2 a b) + ·) (product_apply m c (dn c (t + 1)) a b)

/-- All eight parts, in the order in which they are added, are all devices' parts. -/
theorem acc_all (c : Dev nD) (a : Fin 512) (b : Fin 2048) : accV m c 7 (ix2 a b) = ∑ j, part m c a b j := by
  rw [univ_dn c, List.sum_toFinset _ (nodup_dn c)]
  simp only [acc_succ m c, acc_zero m c, List.map_cons, List.map_nil, List.sum_cons, List.sum_nil, add_zero, add_assoc, Nat.reduceAdd]

/-- A sum over 4096 in eight blocks of 512. -/
theorem sum_blocks (f : Fin 4096 → EReal) : ∑ i, f i = ∑ j : Fin 8, ∑ k : Fin 512, f (at512 j k) := by
  rw [← Fintype.sum_prod_type' (f := fun j k => f (at512 j k))]
  refine (Fintype.sum_equiv (finProdFinEquiv (m := 8) (n := 512)) _ _ fun p => congrArg f (Fin.ext ?_)).symm
  show 512 * p.1.val + p.2.val = p.2.val + 512 * p.1.val
  omega

/-! ## The reference, and the two compared -/

/-- The reference's result of `x` and `w`: their product, negative entries replaced by zero. -/
abbrev refOut (x : FVec Ideal ⟨2, ![4096, 4096]⟩ .f32) (w : FVec Ideal S4096x2048 .f32) : FVec Ideal ⟨2, ![4096, 2048]⟩ .f32 :=
  maximumf (Host.dotGeneral ReferenceIdeal.dot_S4096x4096_S4096x2048_S4096x2048_1_0_0_1_n_n none x w)
    (broadcastInDim ReferenceIdeal.S4096x2048 ![] ReferenceIdeal.Gen.bcast_S_S4096x2048 (constant ReferenceIdeal.S_ .f32 0x00000000#32))

theorem refOut_apply (x : FVec Ideal ⟨2, ![4096, 4096]⟩ .f32) (w : FVec Ideal S4096x2048 .f32) (r : Fin 4096) (b : Fin 2048) :
    refOut x w (ix2 r b) = max (∑ i : Fin 4096, x (ix2 r i) * w (ix2 i b)) 0 := by
  show max (Host.dotGeneral (DotDims.plain 4096 4096 2048) none x w (ix2 r b)) (Ideal.ofBits .f32 0x00000000#32) = _
  rw [StackMember.dotGeneral_plain_apply, Ideal.ofBits_zero_f32]

theorem outAt_apply (c : Dev nD) (a : Fin 512) (b : Fin 2048) :
    (outAt m c : FVec Ideal S512x2048 .f32) (ix2 a b) = max (∑ j, part m c a b j) 0 := by
  show max (shapeCast S512x2048 (accV m c 7) _ (ix2 a b)) (Ideal.ofBits .f32 0x00000000#32) = _
  rw [shapeCast_self, acc_all, Ideal.ofBits_zero_f32]

/-- Where each device starts with its columns of `x` and with all of `w`, it ends with its rows of the reference's
    result. -/
theorem outAt_block (x : FVec Ideal ⟨2, ![4096, 4096]⟩ .f32) (w : FVec Ideal S4096x2048 .f32)
    (hx : ∀ j, xOf m j = Layout.block ⟨2, ![4096, 512]⟩ ⟨2, ![4096, 4096]⟩ 1 8 j x) (hw : ∀ c, wOf m c = w) (c : Dev nD) :
    outAt m c = Layout.block ⟨2, ![512, 2048]⟩ ⟨2, ![4096, 2048]⟩ 0 8 c (refOut x w) := by
  funext y
  obtain ⟨a, b, rfl⟩ : ∃ (a : Fin 512) (b : Fin 2048), y = ix2 a b := ⟨y 0, y 1, eq_ix2 y⟩
  refine (outAt_apply m c a b).trans ?_
  rw [Layout.block_apply]
  rw [show Layout.Tiles.idx (S := ⟨2, ![512, 2048]⟩) (T := ⟨2, ![4096, 2048]⟩) (a := 0) (k := 8) (by decide) c (ix2 a b) = ix2 (at512 c a) b from
    funext fun i => Fin.ext (by
      match i with
      | ⟨0, _⟩ => show c.val * 512 + a.val = 512 * c.val + a.val; omega
      | ⟨1, _⟩ => rfl)]
  rw [refOut_apply, sum_blocks]
  refine congrArg (fun v : EReal => max v 0) (Finset.sum_congr rfl fun j _ => Finset.sum_congr rfl fun k _ => ?_)
  rw [hx, hw, Layout.block_apply]
  refine congrArg (fun i => x i * w (ix2 (at512 j k) b)) (funext fun i => Fin.ext ?_)
  match i with
  | ⟨0, _⟩ => rfl
  | ⟨1, _⟩ => show j.val * 512 + k.val = 512 * j.val + k.val; omega

end Cert.KernelIdealProof

end
-- ==== Proof.lean ====
/-
# The claims

`v01` of the kernel on eight devices: it runs to the end, leaves its arguments and counters as they were, and its results
together are the reference's. The runs are in Proof/Kernel/ and Proof/KernelIdeal/, the mathematics in
Proof/KernelIdeal/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel's run, the arguments and the counters read off. -/
theorem frame_kernel : Cert.quiescent_Kernel := fun m ρ _ =>
  (θ_run Cert.Kernel.defs _ _).mono
    (fun _ h => ⟨fun c => ⟨(h.1 c (0 : Fin 3)).trans (KernelProof.finalA_x m c), (h.1 c (1 : Fin 3)).trans (KernelProof.finalA_w m c)⟩, h.2⟩)
    (KernelProof.run_main (F := Bits) m ρ)

/-- The same at the ideal values. -/
theorem frame_kernelIdeal : Cert.quiescent_KernelIdeal := fun m ρ _ =>
  (θ_run Cert.KernelIdeal.defs _ _).mono
    (fun _ h => ⟨fun c => ⟨(h.1 c (0 : Fin 3)).trans (KernelIdealProof.finalA_x m c), (h.1 c (1 : Fin 3)).trans (KernelIdealProof.finalA_w m c)⟩, h.2⟩)
    (KernelIdealProof.run_main (F := Ideal) m ρ)

/-- The reference has no counter, and writes neither argument. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its row block of the reference's. -/
theorem algebraic : Cert.algebraic_KernelIdeal_ReferenceIdeal := fun m ρ m' ρ' _ hagree =>
  ⟨KernelIdealProof.refOut _ _,
    (θ_run Cert.KernelIdeal.defs _ _).mono
      (fun _ h c => ⟨(h.1 c (2 : Fin 3)).trans ((KernelIdealProof.finalA_out m c).trans
          (KernelIdealProof.outAt_block m _ _ (fun j => (hagree j).1) (fun j => (hagree j).2) c)),
        (h.1 c (0 : Fin 3)).trans (KernelIdealProof.finalA_x m c), (h.1 c (1 : Fin 3)).trans (KernelIdealProof.finalA_w m c)⟩)
      (KernelIdealProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
